-- ==== Defs.lean ====
def Pre_Kernel [hPre_context_in_range : Cert.Pre_context_in_range.Facts] (m : (ℓ : Loc Cert.Kernel.nD Cert.Kernel.τ Cert.Kernel.sig) → Buf (Elt Bits) ℓ) : Prop :=
  ∀ c : Dev Cert.Kernel.nD,
    (Cert.Pre_context_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_context_in_range : Cert.Pre_context_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_context_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_finite_in_range [hPre_finite_in_range : Cert.Pre_finite_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_in_range [hPre_finite_in_range : Cert.Pre_finite_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_context_in_range : Cert.Pre_context_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_context_in_range : Cert.Pre_context_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_in_range [hKernelIdeal : Cert.KernelIdeal.Facts] [hPre_finite_in_range : Cert.Pre_finite_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_in_range [hReferenceIdeal : Cert.ReferenceIdeal.Facts] [hPre_finite_in_range : Cert.Pre_finite_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "scale" .f32 0x3DB504F3#32 (((Real.sqrt 128)⁻¹ : ℝ) : EReal)
  ∧ IdealRules.named_const.Statement Cert.KernelIdeal.κ "mask" .f32 0xF149F2CA#32 ⊥

def algebraic_KernelIdeal_ReferenceIdeal_pre_finite_in_range [hKernelIdeal : Cert.KernelIdeal.Facts] [hReferenceIdeal : Cert.ReferenceIdeal.Facts] [hPre_finite_in_range : Cert.Pre_finite_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_context_in_range : Cert.Pre_context_in_range.Facts) (hPre_finite_in_range : Cert.Pre_finite_in_range.Facts),
    quiescent_Kernel (hKernel := hKernel) (hPre_context_in_range := hPre_context_in_range)
    ∧ quiescent_KernelIdeal (hKernelIdeal := hKernelIdeal) (hPre_context_in_range := hPre_context_in_range)
    ∧ quiescent_KernelIdeal_pre_finite_in_range (hKernelIdeal := hKernelIdeal) (hPre_finite_in_range := hPre_finite_in_range)
    ∧ quiescent_ReferenceIdeal (hReferenceIdeal := hReferenceIdeal)
    ∧ quiescent_ReferenceIdeal_pre_finite_in_range (hReferenceIdeal := hReferenceIdeal) (hPre_finite_in_range := hPre_finite_in_range)
    ∧ preserves_Kernel_KernelIdeal
    ∧ algebraic_KernelIdeal_ReferenceIdeal_pre_finite_in_range (hKernelIdeal := hKernelIdeal) (hReferenceIdeal := hReferenceIdeal) (hPre_finite_in_range := hPre_finite_in_range)
-- ==== Pre_context_in_range.lean ====
abbrev S8x32x128 : Shape := ⟨3, ![8, 32, 128]⟩
abbrev S8x2x8x2048x128 : Shape := ⟨5, ![8, 2, 8, 2048, 128]⟩
abbrev S8 : Shape := ⟨1, ![8]⟩
abbrev S_ : Shape := ⟨0, ![]⟩

class Facts : Prop where
  bcast_S_S8 : S_.BroadcastsInDim S8 (![] : Fin 0 → Fin S8.rank)

variable [Facts]

def fn {F : FTy → Type} [FloatOps F] (main_arg0 : FVec F S8x32x128 .f32) (main_arg1 : FVec F S8x2x8x2048x128 .f32) (main_arg2 : FVec F S8x2x8x2048x128 .f32) (main_arg3 : IVec S8 32) : IVec S8 1 :=
  let main_c : IVec S_ 32 := constantI S_ 32 1024#32
  let main_v0 : IVec S8 32 := broadcastInDim S8 ![] bcast_S_S8 main_c
  let main_v1 : IVec S8 1 := cmpi .sge main_arg3 main_v0
  let main_c_0 : IVec S_ 32 := constantI S_ 32 2048#32
  let main_v2 : IVec S8 32 := broadcastInDim S8 ![] bcast_S_S8 main_c_0
  let main_v3 : IVec S8 1 := cmpi .sle main_arg3 main_v2
  let main_v4 : IVec S8 1 := andi main_v1 main_v3
  main_v4
-- ==== Pre_finite_in_range.lean ====
abbrev S8x32x128 : Shape := ⟨3, ![8, 32, 128]⟩
abbrev S8x2x8x2048x128 : Shape := ⟨5, ![8, 2, 8, 2048, 128]⟩
abbrev S8 : Shape := ⟨1, ![8]⟩
abbrev S_ : Shape := ⟨0, ![]⟩

class Facts : Prop where
  bcast_S_S8x32x128 : S_.BroadcastsInDim S8x32x128 (![] : Fin 0 → Fin S8x32x128.rank)
  reducesTo_S8x32x128_S_d0_1_2 : S8x32x128.ReducesTo [0, 1, 2] S_
  h_S_ : 0 < S_.numel
  bcast_S_S8x2x8x2048x128 : S_.BroadcastsInDim S8x2x8x2048x128 (![] : Fin 0 → Fin S8x2x8x2048x128.rank)
  reducesTo_S8x2x8x2048x128_S_d0_1_2_3_4 : S8x2x8x2048x128.ReducesTo [0, 1, 2, 3, 4] S_
  bcast_S_S8 : S_.BroadcastsInDim S8 (![] : Fin 0 → Fin S8.rank)

variable [Facts]

def fn_part1 {F : FTy → Type} [FloatOps F] (main_arg3 : IVec S8 32) (main_v15 : IVec S8 1) (main_v16 : IVec S8 1) : IVec S8 1 :=
  let main_v17 : IVec S8 1 := andi main_v16 main_v15
  let main_c_5 : IVec S_ 32 := constantI S_ 32 2048#32
  let main_v18 : IVec S8 32 := broadcastInDim S8 ![] bcast_S_S8 main_c_5
  let main_v19 : IVec S8 1 := cmpi .sle main_arg3 main_v18
  let main_v20 : IVec S8 1 := andi main_v17 main_v19
  main_v20

def fn {F : FTy → Type} [FloatOps F] (main_arg0 : FVec F S8x32x128 .f32) (main_arg1 : FVec F S8x2x8x2048x128 .f32) (main_arg2 : FVec F S8x2x8x2048x128 .f32) (main_arg3 : IVec S8 32) : IVec S8 1 :=
  let main_v0 : FVec F S8x32x128 .f32 := Host.absf main_arg0
  let main_cst : FVec F S_ .f32 := constant S_ .f32 0x7F800000#32
  let main_v1 : FVec F S8x32x128 .f32 := broadcastInDim S8x32x128 ![] bcast_S_S8x32x128 main_cst
  let main_v2 : IVec S8x32x128 1 := cmpf .olt main_v0 main_v1
  let main_c : IVec S_ 1 := constantI S_ 1 1#1
  let main_v3 : IVec S_ 1 := (fun x v => Host.reduce IntOp.andi x v reducesTo_S8x32x128_S_d0_1_2 h_S_) main_v2 main_c
  let main_v4 : FVec F S8x2x8x2048x128 .f32 := Host.absf main_arg1
  let main_cst_0 : FVec F S_ .f32 := constant S_ .f32 0x7F800000#32
  let main_v5 : FVec F S8x2x8x2048x128 .f32 := broadcastInDim S8x2x8x2048x128 ![] bcast_S_S8x2x8x2048x128 main_cst_0
  let main_v6 : IVec S8x2x8x2048x128 1 := cmpf .olt main_v4 main_v5
  let main_c_1 : IVec S_ 1 := constantI S_ 1 1#1
  let main_v7 : IVec S_ 1 := (fun x v => Host.reduce IntOp.andi x v reducesTo_S8x2x8x2048x128_S_d0_1_2_3_4 h_S_) main_v6 main_c_1
  let main_v8 : IVec S_ 1 := andi main_v3 main_v7
  let main_v9 : FVec F S8x2x8x2048x128 .f32 := Host.absf main_arg2
  let main_cst_2 : FVec F S_ .f32 := constant S_ .f32 0x7F800000#32
  let main_v10 : FVec F S8x2x8x2048x128 .f32 := broadcastInDim S8x2x8x2048x128 ![] bcast_S_S8x2x8x2048x128 main_cst_2
  let main_v11 : IVec S8x2x8x2048x128 1 := cmpf .olt main_v9 main_v10
  let main_c_3 : IVec S_ 1 := constantI S_ 1 1#1
  let main_v12 : IVec S_ 1 := (fun x v => Host.reduce IntOp.andi x v reducesTo_S8x2x8x2048x128_S_d0_1_2_3_4 h_S_) main_v11 main_c_3
  let main_v13 : IVec S_ 1 := andi main_v8 main_v12
  let main_c_4 : IVec S_ 32 := constantI S_ 32 1024#32
  let main_v14 : IVec S8 32 := broadcastInDim S8 ![] bcast_S_S8 main_c_4
  let main_v15 : IVec S8 1 := cmpi .sge main_arg3 main_v14
  let main_v16 : IVec S8 1 := broadcastInDim S8 ![] bcast_S_S8 main_v13
  fn_part1 (F := F) main_arg3 main_v15 main_v16
-- ==== Kernel.lean ====
abbrev S8x32x128 : Shape := ⟨3, ![8, 32, 128]⟩
abbrev S8x2x8x2048x128 : Shape := ⟨5, ![8, 2, 8, 2048, 128]⟩
abbrev S8 : Shape := ⟨1, ![8]⟩
abbrev S8x8x4x128 : Shape := ⟨4, ![8, 8, 4, 128]⟩
abbrev S1x8x4x128 : Shape := ⟨4, ![1, 8, 4, 128]⟩
abbrev S1x1x8x1024x128 : Shape := ⟨5, ![1, 1, 8, 1024, 128]⟩
abbrev S2x8x1024x128 : Shape := ⟨4, ![2, 8, 1024, 128]⟩
abbrev S8x4x128 : Shape := ⟨3, ![8, 4, 128]⟩
abbrev S2 : Shape := ⟨1, ![2]⟩
abbrev S1 : Shape := ⟨1, ![1]⟩
abbrev S_ : Shape := ⟨0, ![]⟩
abbrev S1x8x128x128 : Shape := ⟨4, ![1, 8, 128, 128]⟩
abbrev S8x128x128 : Shape := ⟨3, ![8, 128, 128]⟩
abbrev S1x1x8x128x128 : Shape := ⟨5, ![1, 1, 8, 128, 128]⟩
abbrev S8x1024x128 : Shape := ⟨3, ![8, 1024, 128]⟩
abbrev S8x4x1024 : Shape := ⟨3, ![8, 4, 1024]⟩
abbrev S8x4 : Shape := ⟨2, ![8, 4]⟩
abbrev S8x4x1 : Shape := ⟨3, ![8, 4, 1]⟩

abbrev nBuf : Space → Nat
  | .hbm => 6
  | .vmem => 14
  | .smem => 1
  | _ => 0

abbrev bufTy : (tb : Table) → Fin (tcTables nBuf tb) → BufTy
  | .hbm, ⟨0, _⟩ => ⟨S8x32x128, .f32⟩
  | .hbm, ⟨1, _⟩ => ⟨S8x2x8x2048x128, .f32⟩
  | .hbm, ⟨2, _⟩ => ⟨S8x2x8x2048x128, .f32⟩
  | .hbm, ⟨3, _⟩ => ⟨S8x8x4x128, .f32⟩
  | .hbm, ⟨4, _⟩ => ⟨S8x8x4x128, .f32⟩
  | .hbm, ⟨5, _⟩ => ⟨S8x32x128, .f32⟩
  | .local _ .vmem, ⟨0, _⟩ => ⟨S1x8x4x128, .f32⟩
  | .local _ .vmem, ⟨1, _⟩ => ⟨S1x8x4x128, .f32⟩
  | .local _ .vmem, ⟨2, _⟩ => ⟨S1x1x8x1024x128, .f32⟩
  | .local _ .vmem, ⟨3, _⟩ => ⟨S1x1x8x1024x128, .f32⟩
  | .local _ .vmem, ⟨4, _⟩ => ⟨S1x1x8x1024x128, .f32⟩
  | .local _ .vmem, ⟨5, _⟩ => ⟨S1x1x8x1024x128, .f32⟩
  | .local _ .vmem, ⟨6, _⟩ => ⟨S1x8x4x128, .f32⟩
  | .local _ .vmem, ⟨7, _⟩ => ⟨S1x8x4x128, .f32⟩
  | .local _ .vmem, ⟨8, _⟩ => ⟨S2x8x1024x128, .f32⟩
  | .local _ .vmem, ⟨9, _⟩ => ⟨S2x8x1024x128, .f32⟩
  | .local _ .vmem, ⟨10, _⟩ => ⟨S8x4x128, .f32⟩
  | .local _ .vmem, ⟨11, _⟩ => ⟨S8x4x128, .f32⟩
  | .local _ .vmem, ⟨12, _⟩ => ⟨S8x4x128, .f32⟩
  | .local _ .vmem, ⟨13, _⟩ => ⟨S8x4x128, .f32⟩
  | .local _ .smem, ⟨0, _⟩ => ⟨S8, .i32⟩
  | _, _ => ⟨S8x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_v0 : Ref sig .tc := ⟨.hbm, 5, rfl⟩
abbrev main_arg3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 2], ![false, false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v3 : Index := Scalar.indexCast arg0
  ![v3.toNat]
def k0_cond1 (i : grid0.Coords) : BitVec 1 :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c0_i32 : BitVec 32 := 0#32
  let v5 : BitVec 1 := Scalar.cmpi .eq v1 c0_i32
  let v6 : BitVec 32 := Scalar.extui v5
  let c0_i32_1 : BitVec 32 := 0#32
  let v7 : BitVec 1 := Scalar.cmpi .ne v6 c0_i32_1
  v7

def k0_off2 : Fin 1 → Nat :=
  let c0_i32_57 : BitVec 32 := 0#32
  let c2_i32_58 : BitVec 32 := 2#32
  let v82 : BitVec 32 := Scalar.divsi c0_i32_57 c2_i32_58
  let v84 : Index := Scalar.indexCast v82
  ![v84.toNat]
@[reducible] def k0_t1_loop (v85 : BitVec 32) : Scf.Loop 32 :=
  let c0_i32_65 : BitVec 32 := 0#32
  let c1024_i32_61 : BitVec 32 := 1024#32
  let v86 : BitVec 32 := Scalar.subi v85 c1024_i32_61
  let c127_i32_62 : BitVec 32 := 127#32
  let v87 : BitVec 32 := Scalar.addi v86 c127_i32_62
  let c128_i32_63 : BitVec 32 := 128#32
  let v88 : BitVec 32 := Scalar.divsi v87 c128_i32_63
  let c0_i32_64 : BitVec 32 := 0#32
  let v89 : BitVec 32 := Scalar.maxsi v88 c0_i32_64
  let v90 : BitVec 32 := Scalar.subi v89 c0_i32_65
  let c1_i32_67 : BitVec 32 := 1#32
  let v92 : BitVec 32 := Scalar.divsi v90 c1_i32_67
  let v93 : BitVec 32 := Scalar.muli v92 c1_i32_67
  let v94 : BitVec 32 := Scalar.addi c0_i32_65 v93
  let c1_i32_68 : BitVec 32 := 1#32
  ⟨c0_i32_65, v94, c1_i32_68⟩

def k0_off3 (v85 : BitVec 32) (k0_t1 : Fin (k0_t1_loop v85).trips) : Fin 4 → Nat :=
  let c0_i32_76 : BitVec 32 := 0#32
  let c0_i32_78 : BitVec 32 := 0#32
  let c0_i32_65 : BitVec 32 := 0#32
  let c1_i32_68 : BitVec 32 := 1#32
  let arg16 : BitVec 32 := Scf.iv c0_i32_65 c1_i32_68 k0_t1
  let c128_i32_72 : BitVec 32 := 128#32
  let v99 : BitVec 32 := Scalar.muli arg16 c128_i32_72
  let c0_i32_79 : BitVec 32 := 0#32
  ![0, 0, v99.toNat, 0]
def k0_off4 (v85 : BitVec 32) (k0_t1 : Fin (k0_t1_loop v85).trips) : Fin 5 → Nat :=
  let c0_i32_57 : BitVec 32 := 0#32
  let c2_i32_58 : BitVec 32 := 2#32
  let v82 : BitVec 32 := Scalar.divsi c0_i32_57 c2_i32_58
  let c0_i32_59 : BitVec 32 := 0#32
  let c2_i32_60 : BitVec 32 := 2#32
  let v83 : BitVec 32 := Scalar.remsi c0_i32_59 c2_i32_60
  let c0_i32_80 : BitVec 32 := 0#32
  let c1024_i32_71 : BitVec 32 := 1024#32
  let c0_i32_65 : BitVec 32 := 0#32
  let c1_i32_68 : BitVec 32 := 1#32
  let arg16 : BitVec 32 := Scf.iv c0_i32_65 c1_i32_68 k0_t1
  let c128_i32_70 : BitVec 32 := 128#32
  let v97 : BitVec 32 := Scalar.muli arg16 c128_i32_70
  let v98 : BitVec 32 := Scalar.addi c1024_i32_71 v97
  let c0_i32_81 : BitVec 32 := 0#32
  ![v82.toNat, v83.toNat, 0, v98.toNat, 0]
@[reducible] def k0_t2_loop (v85 : BitVec 32) : Scf.Loop 32 :=
  let c0_i32_65 : BitVec 32 := 0#32
  let c1024_i32_61 : BitVec 32 := 1024#32
  let v86 : BitVec 32 := Scalar.subi v85 c1024_i32_61
  let c127_i32_62 : BitVec 32 := 127#32
  let v87 : BitVec 32 := Scalar.addi v86 c127_i32_62
  let c128_i32_63 : BitVec 32 := 128#32
  let v88 : BitVec 32 := Scalar.divsi v87 c128_i32_63
  let c0_i32_64 : BitVec 32 := 0#32
  let v89 : BitVec 32 := Scalar.maxsi v88 c0_i32_64
  let v90 : BitVec 32 := Scalar.subi v89 c0_i32_65
  let c1_i32_67 : BitVec 32 := 1#32
  let v92 : BitVec 32 := Scalar.divsi v90 c1_i32_67
  let v93 : BitVec 32 := Scalar.muli v92 c1_i32_67
  let v94 : BitVec 32 := Scalar.addi c0_i32_65 v93
  let v91 : BitVec 32 := Scalar.addi c0_i32_65 v90
  let c1_i32_69 : BitVec 32 := 1#32
  ⟨v94, v91, c1_i32_69⟩
def k0_off5 (v85 : BitVec 32) (k0_t2 : Fin (k0_t2_loop v85).trips) : Fin 4 → Nat :=
  let c0_i32_76 : BitVec 32 := 0#32
  let c0_i32_78 : BitVec 32 := 0#32
  let c0_i32_65 : BitVec 32 := 0#32
  let c1024_i32_61 : BitVec 32 := 1024#32
  let v86 : BitVec 32 := Scalar.subi v85 c1024_i32_61
  let c127_i32_62 : BitVec 32 := 127#32
  let v87 : BitVec 32 := Scalar.addi v86 c127_i32_62
  let c128_i32_63 : BitVec 32 := 128#32
  let v88 : BitVec 32 := Scalar.divsi v87 c128_i32_63
  let c0_i32_64 : BitVec 32 := 0#32
  let v89 : BitVec 32 := Scalar.maxsi v88 c0_i32_64
  let v90 : BitVec 32 := Scalar.subi v89 c0_i32_65
  let c1_i32_67 : BitVec 32 := 1#32
  let v92 : BitVec 32 := Scalar.divsi v90 c1_i32_67
  let v93 : BitVec 32 := Scalar.muli v92 c1_i32_67
  let v94 : BitVec 32 := Scalar.addi c0_i32_65 v93
  let c1_i32_69 : BitVec 32 := 1#32
  let arg16 : BitVec 32 := Scf.iv v94 c1_i32_69 k0_t2
  let c128_i32_72 : BitVec 32 := 128#32
  let v99 : BitVec 32 := Scalar.muli arg16 c128_i32_72
  let c0_i32_79 : BitVec 32 := 0#32
  ![0, 0, v99.toNat, 0]
def k0_off6 (v85 : BitVec 32) (k0_t2 : Fin (k0_t2_loop v85).trips) : Fin 5 → Nat :=
  let c0_i32_57 : BitVec 32 := 0#32
  let c2_i32_58 : BitVec 32 := 2#32
  let v82 : BitVec 32 := Scalar.divsi c0_i32_57 c2_i32_58
  let c0_i32_59 : BitVec 32 := 0#32
  let c2_i32_60 : BitVec 32 := 2#32
  let v83 : BitVec 32 := Scalar.remsi c0_i32_59 c2_i32_60
  let c0_i32_80 : BitVec 32 := 0#32
  let c1024_i32_71 : BitVec 32 := 1024#32
  let c0_i32_65 : BitVec 32 := 0#32
  let c1024_i32_61 : BitVec 32 := 1024#32
  let v86 : BitVec 32 := Scalar.subi v85 c1024_i32_61
  let c127_i32_62 : BitVec 32 := 127#32
  let v87 : BitVec 32 := Scalar.addi v86 c127_i32_62
  let c128_i32_63 : BitVec 32 := 128#32
  let v88 : BitVec 32 := Scalar.divsi v87 c128_i32_63
  let c0_i32_64 : BitVec 32 := 0#32
  let v89 : BitVec 32 := Scalar.maxsi v88 c0_i32_64
  let v90 : BitVec 32 := Scalar.subi v89 c0_i32_65
  let c1_i32_67 : BitVec 32 := 1#32
  let v92 : BitVec 32 := Scalar.divsi v90 c1_i32_67
  let v93 : BitVec 32 := Scalar.muli v92 c1_i32_67
  let v94 : BitVec 32 := Scalar.addi c0_i32_65 v93
  let c1_i32_69 : BitVec 32 := 1#32
  let arg16 : BitVec 32 := Scf.iv v94 c1_i32_69 k0_t2
  let c128_i32_70 : BitVec 32 := 128#32
  let v97 : BitVec 32 := Scalar.muli arg16 c128_i32_70
  let v98 : BitVec 32 := Scalar.addi c1024_i32_71 v97
  let c0_i32_81 : BitVec 32 := 0#32
  ![v82.toNat, v83.toNat, 0, v98.toNat, 0]

def k0_chk1 (i : grid0.Coords) (v85 : BitVec 32) : Prop :=
  (∀ (k0_h1 : k0_cond1 i = 1#1), (k0_t1_loop v85).OK) ∧
  (∀ k0_t1 : Fin (k0_t1_loop v85).trips, ∀ (k0_h1 : k0_cond1 i = 1#1), ∀ a, (k0_off3 v85 k0_t1) a + S1x8x128x128.size a ≤ S2x8x1024x128.size a) ∧
  (∀ k0_t1 : Fin (k0_t1_loop v85).trips, ∀ (k0_h1 : k0_cond1 i = 1#1), ∀ a, (k0_off4 v85 k0_t1) a + S1x1x8x128x128.size a ≤ S8x2x8x2048x128.size a) ∧
  (∀ (k0_h1 : k0_cond1 i = 1#1), (k0_t2_loop v85).OK) ∧
  (∀ k0_t2 : Fin (k0_t2_loop v85).trips, ∀ (k0_h1 : k0_cond1 i = 1#1), ∀ a, (k0_off5 v85 k0_t2) a + S1x8x128x128.size a ≤ S2x8x1024x128.size a) ∧
  (∀ k0_t2 : Fin (k0_t2_loop v85).trips, ∀ (k0_h1 : k0_cond1 i = 1#1), ∀ a, (k0_off6 v85 k0_t2) a + S1x1x8x128x128.size a ≤ S8x2x8x2048x128.size a)
theorem k0_t1_ok : ∀ (i : grid0.Coords) (v85 : BitVec 32) (k0_hw1 : k0_chk1 i v85), ∀ (k0_h1 : k0_cond1 i = 1#1), (k0_t1_loop v85).OK := fun i v85 k0_hw1 k0_h1 => k0_hw1.1 k0_h1
theorem k0_off3_inb : ∀ (i : grid0.Coords) (v85 : BitVec 32) (k0_hw1 : k0_chk1 i v85) (k0_t1 : Fin (k0_t1_loop v85).trips), ∀ (k0_h1 : k0_cond1 i = 1#1), ∀ a, (k0_off3 v85 k0_t1) a + S1x8x128x128.size a ≤ S2x8x1024x128.size a := fun i v85 k0_hw1 k0_t1 k0_h1 => k0_hw1.2.1 k0_t1 k0_h1
theorem k0_off4_inb : ∀ (i : grid0.Coords) (v85 : BitVec 32) (k0_hw1 : k0_chk1 i v85) (k0_t1 : Fin (k0_t1_loop v85).trips), ∀ (k0_h1 : k0_cond1 i = 1#1), ∀ a, (k0_off4 v85 k0_t1) a + S1x1x8x128x128.size a ≤ S8x2x8x2048x128.size a := fun i v85 k0_hw1 k0_t1 k0_h1 => k0_hw1.2.2.1 k0_t1 k0_h1
theorem k0_t2_ok : ∀ (i : grid0.Coords) (v85 : BitVec 32) (k0_hw1 : k0_chk1 i v85), ∀ (k0_h1 : k0_cond1 i = 1#1), (k0_t2_loop v85).OK := fun i v85 k0_hw1 k0_h1 => k0_hw1.2.2.2.1 k0_h1
theorem k0_off5_inb : ∀ (i : grid0.Coords) (v85 : BitVec 32) (k0_hw1 : k0_chk1 i v85) (k0_t2 : Fin (k0_t2_loop v85).trips), ∀ (k0_h1 : k0_cond1 i = 1#1), ∀ a, (k0_off5 v85 k0_t2) a + S1x8x128x128.size a ≤ S2x8x1024x128.size a := fun i v85 k0_hw1 k0_t2 k0_h1 => k0_hw1.2.2.2.2.1 k0_t2 k0_h1
theorem k0_off6_inb : ∀ (i : grid0.Coords) (v85 : BitVec 32) (k0_hw1 : k0_chk1 i v85) (k0_t2 : Fin (k0_t2_loop v85).trips), ∀ (k0_h1 : k0_cond1 i = 1#1), ∀ a, (k0_off6 v85 k0_t2) a + S1x1x8x128x128.size a ≤ S8x2x8x2048x128.size a := fun i v85 k0_hw1 k0_t2 k0_h1 => k0_hw1.2.2.2.2.2 k0_t2 k0_h1

def k0_cond2 (i : grid0.Coords) : BitVec 1 :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v8 : BitVec 32 := Scalar.addi v1 c1_i32
  let c16_i32 : BitVec 32 := 16#32
  let v9 : BitVec 1 := Scalar.cmpi .slt v8 c16_i32
  let v10 : BitVec 32 := Scalar.extui v9
  let c0_i32_2 : BitVec 32 := 0#32
  let v11 : BitVec 1 := Scalar.cmpi .ne v10 c0_i32_2
  v11

def k0_off7 (i : grid0.Coords) : Fin 1 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_57 : BitVec 32 := 1#32
  let v82 : BitVec 32 := Scalar.addi v1 c1_i32_57
  let c2_i32_59 : BitVec 32 := 2#32
  let v84 : BitVec 32 := Scalar.divsi v82 c2_i32_59
  let v86 : Index := Scalar.indexCast v84
  ![v86.toNat]
@[reducible] def k0_t3_loop (v87 : BitVec 32) : Scf.Loop 32 :=
  let c0_i32_65 : BitVec 32 := 0#32
  let c1024_i32_61 : BitVec 32 := 1024#32
  let v88 : BitVec 32 := Scalar.subi v87 c1024_i32_61
  let c127_i32_62 : BitVec 32 := 127#32
  let v89 : BitVec 32 := Scalar.addi v88 c127_i32_62
  let c128_i32_63 : BitVec 32 := 128#32
  let v90 : BitVec 32 := Scalar.divsi v89 c128_i32_63
  let c0_i32_64 : BitVec 32 := 0#32
  let v91 : BitVec 32 := Scalar.maxsi v90 c0_i32_64
  let v92 : BitVec 32 := Scalar.subi v91 c0_i32_65
  let c1_i32_67 : BitVec 32 := 1#32
  let v94 : BitVec 32 := Scalar.divsi v92 c1_i32_67
  let v95 : BitVec 32 := Scalar.muli v94 c1_i32_67
  let v96 : BitVec 32 := Scalar.addi c0_i32_65 v95
  let c1_i32_68 : BitVec 32 := 1#32
  ⟨c0_i32_65, v96, c1_i32_68⟩

def k0_off8 (i : grid0.Coords) : Fin 1 → Nat :=
  let c1_i32_58 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let v2 : BitVec 32 := Scalar.remsi v1 c2_i32_0
  let v83 : BitVec 32 := Scalar.subi c1_i32_58 v2
  ![v83.toNat]
def k0_off9 (i : grid0.Coords) (v87 : BitVec 32) (k0_t3 : Fin (k0_t3_loop v87).trips) : Fin 4 → Nat :=
  let c1_i32_58 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let v2 : BitVec 32 := Scalar.remsi v1 c2_i32_0
  let v83 : BitVec 32 := Scalar.subi c1_i32_58 v2
  let c0_i32_76 : BitVec 32 := 0#32
  let c0_i32_65 : BitVec 32 := 0#32
  let c1_i32_68 : BitVec 32 := 1#32
  let arg16 : BitVec 32 := Scf.iv c0_i32_65 c1_i32_68 k0_t3
  let c128_i32_72 : BitVec 32 := 128#32
  let v101 : BitVec 32 := Scalar.muli arg16 c128_i32_72
  let c0_i32_77 : BitVec 32 := 0#32
  ![v83.toNat, 0, v101.toNat, 0]
def k0_off10 (i : grid0.Coords) (v87 : BitVec 32) (k0_t3 : Fin (k0_t3_loop v87).trips) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_57 : BitVec 32 := 1#32
  let v82 : BitVec 32 := Scalar.addi v1 c1_i32_57
  let c2_i32_59 : BitVec 32 := 2#32
  let v84 : BitVec 32 := Scalar.divsi v82 c2_i32_59
  let c2_i32_60 : BitVec 32 := 2#32
  let v85 : BitVec 32 := Scalar.remsi v82 c2_i32_60
  let c0_i32_78 : BitVec 32 := 0#32
  let c1024_i32_71 : BitVec 32 := 1024#32
  let c0_i32_65 : BitVec 32 := 0#32
  let c1_i32_68 : BitVec 32 := 1#32
  let arg16 : BitVec 32 := Scf.iv c0_i32_65 c1_i32_68 k0_t3
  let c128_i32_70 : BitVec 32 := 128#32
  let v99 : BitVec 32 := Scalar.muli arg16 c128_i32_70
  let v100 : BitVec 32 := Scalar.addi c1024_i32_71 v99
  let c0_i32_79 : BitVec 32 := 0#32
  ![v84.toNat, v85.toNat, 0, v100.toNat, 0]
@[reducible] def k0_t4_loop (v87 : BitVec 32) : Scf.Loop 32 :=
  let c0_i32_65 : BitVec 32 := 0#32
  let c1024_i32_61 : BitVec 32 := 1024#32
  let v88 : BitVec 32 := Scalar.subi v87 c1024_i32_61
  let c127_i32_62 : BitVec 32 := 127#32
  let v89 : BitVec 32 := Scalar.addi v88 c127_i32_62
  let c128_i32_63 : BitVec 32 := 128#32
  let v90 : BitVec 32 := Scalar.divsi v89 c128_i32_63
  let c0_i32_64 : BitVec 32 := 0#32
  let v91 : BitVec 32 := Scalar.maxsi v90 c0_i32_64
  let v92 : BitVec 32 := Scalar.subi v91 c0_i32_65
  let c1_i32_67 : BitVec 32 := 1#32
  let v94 : BitVec 32 := Scalar.divsi v92 c1_i32_67
  let v95 : BitVec 32 := Scalar.muli v94 c1_i32_67
  let v96 : BitVec 32 := Scalar.addi c0_i32_65 v95
  let v93 : BitVec 32 := Scalar.addi c0_i32_65 v92
  let c1_i32_69 : BitVec 32 := 1#32
  ⟨v96, v93, c1_i32_69⟩
def k0_off11 (i : grid0.Coords) : Fin 1 → Nat :=
  let c1_i32_58 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let v2 : BitVec 32 := Scalar.remsi v1 c2_i32_0
  let v83 : BitVec 32 := Scalar.subi c1_i32_58 v2
  ![v83.toNat]
def k0_off12 (i : grid0.Coords) (v87 : BitVec 32) (k0_t4 : Fin (k0_t4_loop v87).trips) : Fin 4 → Nat :=
  let c1_i32_58 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let v2 : BitVec 32 := Scalar.remsi v1 c2_i32_0
  let v83 : BitVec 32 := Scalar.subi c1_i32_58 v2
  let c0_i32_76 : BitVec 32 := 0#32
  let c0_i32_65 : BitVec 32 := 0#32
  let c1024_i32_61 : BitVec 32 := 1024#32
  let v88 : BitVec 32 := Scalar.subi v87 c1024_i32_61
  let c127_i32_62 : BitVec 32 := 127#32
  let v89 : BitVec 32 := Scalar.addi v88 c127_i32_62
  let c128_i32_63 : BitVec 32 := 128#32
  let v90 : BitVec 32 := Scalar.divsi v89 c128_i32_63
  let c0_i32_64 : BitVec 32 := 0#32
  let v91 : BitVec 32 := Scalar.maxsi v90 c0_i32_64
  let v92 : BitVec 32 := Scalar.subi v91 c0_i32_65
  let c1_i32_67 : BitVec 32 := 1#32
  let v94 : BitVec 32 := Scalar.divsi v92 c1_i32_67
  let v95 : BitVec 32 := Scalar.muli v94 c1_i32_67
  let v96 : BitVec 32 := Scalar.addi c0_i32_65 v95
  let c1_i32_69 : BitVec 32 := 1#32
  let arg16 : BitVec 32 := Scf.iv v96 c1_i32_69 k0_t4
  let c128_i32_72 : BitVec 32 := 128#32
  let v101 : BitVec 32 := Scalar.muli arg16 c128_i32_72
  let c0_i32_77 : BitVec 32 := 0#32
  ![v83.toNat, 0, v101.toNat, 0]
def k0_off13 (i : grid0.Coords) (v87 : BitVec 32) (k0_t4 : Fin (k0_t4_loop v87).trips) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_57 : BitVec 32 := 1#32
  let v82 : BitVec 32 := Scalar.addi v1 c1_i32_57
  let c2_i32_59 : BitVec 32 := 2#32
  let v84 : BitVec 32 := Scalar.divsi v82 c2_i32_59
  let c2_i32_60 : BitVec 32 := 2#32
  let v85 : BitVec 32 := Scalar.remsi v82 c2_i32_60
  let c0_i32_78 : BitVec 32 := 0#32
  let c1024_i32_71 : BitVec 32 := 1024#32
  let c0_i32_65 : BitVec 32 := 0#32
  let c1024_i32_61 : BitVec 32 := 1024#32
  let v88 : BitVec 32 := Scalar.subi v87 c1024_i32_61
  let c127_i32_62 : BitVec 32 := 127#32
  let v89 : BitVec 32 := Scalar.addi v88 c127_i32_62
  let c128_i32_63 : BitVec 32 := 128#32
  let v90 : BitVec 32 := Scalar.divsi v89 c128_i32_63
  let c0_i32_64 : BitVec 32 := 0#32
  let v91 : BitVec 32 := Scalar.maxsi v90 c0_i32_64
  let v92 : BitVec 32 := Scalar.subi v91 c0_i32_65
  let c1_i32_67 : BitVec 32 := 1#32
  let v94 : BitVec 32 := Scalar.divsi v92 c1_i32_67
  let v95 : BitVec 32 := Scalar.muli v94 c1_i32_67
  let v96 : BitVec 32 := Scalar.addi c0_i32_65 v95
  let c1_i32_69 : BitVec 32 := 1#32
  let arg16 : BitVec 32 := Scf.iv v96 c1_i32_69 k0_t4
  let c128_i32_70 : BitVec 32 := 128#32
  let v99 : BitVec 32 := Scalar.muli arg16 c128_i32_70
  let v100 : BitVec 32 := Scalar.addi c1024_i32_71 v99
  let c0_i32_79 : BitVec 32 := 0#32
  ![v84.toNat, v85.toNat, 0, v100.toNat, 0]

def k0_chk2 (i : grid0.Coords) (v87 : BitVec 32) : Prop :=
  (∀ (k0_h2 : k0_cond2 i = 1#1), (k0_t3_loop v87).OK) ∧
  (∀ k0_t3 : Fin (k0_t3_loop v87).trips, ∀ (k0_h2 : k0_cond2 i = 1#1), ∀ a, (k0_off9 i v87 k0_t3) a + S1x8x128x128.size a ≤ S2x8x1024x128.size a) ∧
  (∀ k0_t3 : Fin (k0_t3_loop v87).trips, ∀ (k0_h2 : k0_cond2 i = 1#1), ∀ a, (k0_off10 i v87 k0_t3) a + S1x1x8x128x128.size a ≤ S8x2x8x2048x128.size a) ∧
  (∀ (k0_h2 : k0_cond2 i = 1#1), (k0_t4_loop v87).OK) ∧
  (∀ k0_t4 : Fin (k0_t4_loop v87).trips, ∀ (k0_h2 : k0_cond2 i = 1#1), ∀ a, (k0_off12 i v87 k0_t4) a + S1x8x128x128.size a ≤ S2x8x1024x128.size a) ∧
  (∀ k0_t4 : Fin (k0_t4_loop v87).trips, ∀ (k0_h2 : k0_cond2 i = 1#1), ∀ a, (k0_off13 i v87 k0_t4) a + S1x1x8x128x128.size a ≤ S8x2x8x2048x128.size a)
theorem k0_t3_ok : ∀ (i : grid0.Coords) (v87 : BitVec 32) (k0_hw2 : k0_chk2 i v87), ∀ (k0_h2 : k0_cond2 i = 1#1), (k0_t3_loop v87).OK := fun i v87 k0_hw2 k0_h2 => k0_hw2.1 k0_h2
theorem k0_off9_inb : ∀ (i : grid0.Coords) (v87 : BitVec 32) (k0_hw2 : k0_chk2 i v87) (k0_t3 : Fin (k0_t3_loop v87).trips), ∀ (k0_h2 : k0_cond2 i = 1#1), ∀ a, (k0_off9 i v87 k0_t3) a + S1x8x128x128.size a ≤ S2x8x1024x128.size a := fun i v87 k0_hw2 k0_t3 k0_h2 => k0_hw2.2.1 k0_t3 k0_h2
theorem k0_off10_inb : ∀ (i : grid0.Coords) (v87 : BitVec 32) (k0_hw2 : k0_chk2 i v87) (k0_t3 : Fin (k0_t3_loop v87).trips), ∀ (k0_h2 : k0_cond2 i = 1#1), ∀ a, (k0_off10 i v87 k0_t3) a + S1x1x8x128x128.size a ≤ S8x2x8x2048x128.size a := fun i v87 k0_hw2 k0_t3 k0_h2 => k0_hw2.2.2.1 k0_t3 k0_h2
theorem k0_t4_ok : ∀ (i : grid0.Coords) (v87 : BitVec 32) (k0_hw2 : k0_chk2 i v87), ∀ (k0_h2 : k0_cond2 i = 1#1), (k0_t4_loop v87).OK := fun i v87 k0_hw2 k0_h2 => k0_hw2.2.2.2.1 k0_h2
theorem k0_off12_inb : ∀ (i : grid0.Coords) (v87 : BitVec 32) (k0_hw2 : k0_chk2 i v87) (k0_t4 : Fin (k0_t4_loop v87).trips), ∀ (k0_h2 : k0_cond2 i = 1#1), ∀ a, (k0_off12 i v87 k0_t4) a + S1x8x128x128.size a ≤ S2x8x1024x128.size a := fun i v87 k0_hw2 k0_t4 k0_h2 => k0_hw2.2.2.2.2.1 k0_t4 k0_h2
theorem k0_off13_inb : ∀ (i : grid0.Coords) (v87 : BitVec 32) (k0_hw2 : k0_chk2 i v87) (k0_t4 : Fin (k0_t4_loop v87).trips), ∀ (k0_h2 : k0_cond2 i = 1#1), ∀ a, (k0_off13 i v87 k0_t4) a + S1x1x8x128x128.size a ≤ S8x2x8x2048x128.size a := fun i v87 k0_hw2 k0_t4 k0_h2 => k0_hw2.2.2.2.2.2 k0_t4 k0_h2

def k0_off14 (i : grid0.Coords) : Fin 1 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_30 : BitVec 32 := 2#32
  let v47 : BitVec 32 := Scalar.divsi v1 c2_i32_30
  let v49 : Index := Scalar.indexCast v47
  ![v49.toNat]
@[reducible] def k0_t5_loop (v50 : BitVec 32) : Scf.Loop 32 :=
  let c0_i32_33 : BitVec 32 := 0#32
  let c1024_i32 : BitVec 32 := 1024#32
  let v51 : BitVec 32 := Scalar.subi v50 c1024_i32
  let c127_i32 : BitVec 32 := 127#32
  let v52 : BitVec 32 := Scalar.addi v51 c127_i32
  let c128_i32 : BitVec 32 := 128#32
  let v53 : BitVec 32 := Scalar.divsi v52 c128_i32
  let c0_i32_32 : BitVec 32 := 0#32
  let v54 : BitVec 32 := Scalar.maxsi v53 c0_i32_32
  let v55 : BitVec 32 := Scalar.subi v54 c0_i32_33
  let c1_i32_35 : BitVec 32 := 1#32
  let v57 : BitVec 32 := Scalar.divsi v55 c1_i32_35
  let v58 : BitVec 32 := Scalar.muli v57 c1_i32_35
  let v59 : BitVec 32 := Scalar.addi c0_i32_33 v58
  let c1_i32_36 : BitVec 32 := 1#32
  ⟨c0_i32_33, v59, c1_i32_36⟩

def k0_off15 (i : grid0.Coords) : Fin 1 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let v2 : BitVec 32 := Scalar.remsi v1 c2_i32_0
  ![v2.toNat]
def k0_off16 (i : grid0.Coords) (v50 : BitVec 32) (k0_t5 : Fin (k0_t5_loop v50).trips) : Fin 4 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let v2 : BitVec 32 := Scalar.remsi v1 c2_i32_0
  let c0_i32_63 : BitVec 32 := 0#32
  let c0_i32_33 : BitVec 32 := 0#32
  let c1_i32_36 : BitVec 32 := 1#32
  let arg16 : BitVec 32 := Scf.iv c0_i32_33 c1_i32_36 k0_t5
  let c128_i32_59 : BitVec 32 := 128#32
  let v84 : BitVec 32 := Scalar.muli arg16 c128_i32_59
  let c0_i32_64 : BitVec 32 := 0#32
  ![v2.toNat, 0, v84.toNat, 0]
def k0_off17 (i : grid0.Coords) (v50 : BitVec 32) (k0_t5 : Fin (k0_t5_loop v50).trips) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_30 : BitVec 32 := 2#32
  let v47 : BitVec 32 := Scalar.divsi v1 c2_i32_30
  let c2_i32_31 : BitVec 32 := 2#32
  let v48 : BitVec 32 := Scalar.remsi v1 c2_i32_31
  let c0_i32_65 : BitVec 32 := 0#32
  let c1024_i32_58 : BitVec 32 := 1024#32
  let c0_i32_33 : BitVec 32 := 0#32
  let c1_i32_36 : BitVec 32 := 1#32
  let arg16 : BitVec 32 := Scf.iv c0_i32_33 c1_i32_36 k0_t5
  let c128_i32_57 : BitVec 32 := 128#32
  let v82 : BitVec 32 := Scalar.muli arg16 c128_i32_57
  let v83 : BitVec 32 := Scalar.addi c1024_i32_58 v82
  let c0_i32_66 : BitVec 32 := 0#32
  ![v47.toNat, v48.toNat, 0, v83.toNat, 0]
@[reducible] def k0_t6_loop (v50 : BitVec 32) : Scf.Loop 32 :=
  let c0_i32_33 : BitVec 32 := 0#32
  let c1024_i32 : BitVec 32 := 1024#32
  let v51 : BitVec 32 := Scalar.subi v50 c1024_i32
  let c127_i32 : BitVec 32 := 127#32
  let v52 : BitVec 32 := Scalar.addi v51 c127_i32
  let c128_i32 : BitVec 32 := 128#32
  let v53 : BitVec 32 := Scalar.divsi v52 c128_i32
  let c0_i32_32 : BitVec 32 := 0#32
  let v54 : BitVec 32 := Scalar.maxsi v53 c0_i32_32
  let v55 : BitVec 32 := Scalar.subi v54 c0_i32_33
  let c1_i32_35 : BitVec 32 := 1#32
  let v57 : BitVec 32 := Scalar.divsi v55 c1_i32_35
  let v58 : BitVec 32 := Scalar.muli v57 c1_i32_35
  let v59 : BitVec 32 := Scalar.addi c0_i32_33 v58
  let v56 : BitVec 32 := Scalar.addi c0_i32_33 v55
  let c1_i32_37 : BitVec 32 := 1#32
  ⟨v59, v56, c1_i32_37⟩
def k0_off18 (i : grid0.Coords) : Fin 1 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let v2 : BitVec 32 := Scalar.remsi v1 c2_i32_0
  ![v2.toNat]
def k0_off19 (i : grid0.Coords) (v50 : BitVec 32) (k0_t6 : Fin (k0_t6_loop v50).trips) : Fin 4 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let v2 : BitVec 32 := Scalar.remsi v1 c2_i32_0
  let c0_i32_63 : BitVec 32 := 0#32
  let c0_i32_33 : BitVec 32 := 0#32
  let c1024_i32 : BitVec 32 := 1024#32
  let v51 : BitVec 32 := Scalar.subi v50 c1024_i32
  let c127_i32 : BitVec 32 := 127#32
  let v52 : BitVec 32 := Scalar.addi v51 c127_i32
  let c128_i32 : BitVec 32 := 128#32
  let v53 : BitVec 32 := Scalar.divsi v52 c128_i32
  let c0_i32_32 : BitVec 32 := 0#32
  let v54 : BitVec 32 := Scalar.maxsi v53 c0_i32_32
  let v55 : BitVec 32 := Scalar.subi v54 c0_i32_33
  let c1_i32_35 : BitVec 32 := 1#32
  let v57 : BitVec 32 := Scalar.divsi v55 c1_i32_35
  let v58 : BitVec 32 := Scalar.muli v57 c1_i32_35
  let v59 : BitVec 32 := Scalar.addi c0_i32_33 v58
  let c1_i32_37 : BitVec 32 := 1#32
  let arg16 : BitVec 32 := Scf.iv v59 c1_i32_37 k0_t6
  let c128_i32_59 : BitVec 32 := 128#32
  let v84 : BitVec 32 := Scalar.muli arg16 c128_i32_59
  let c0_i32_64 : BitVec 32 := 0#32
  ![v2.toNat, 0, v84.toNat, 0]
def k0_off20 (i : grid0.Coords) (v50 : BitVec 32) (k0_t6 : Fin (k0_t6_loop v50).trips) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_30 : BitVec 32 := 2#32
  let v47 : BitVec 32 := Scalar.divsi v1 c2_i32_30
  let c2_i32_31 : BitVec 32 := 2#32
  let v48 : BitVec 32 := Scalar.remsi v1 c2_i32_31
  let c0_i32_65 : BitVec 32 := 0#32
  let c1024_i32_58 : BitVec 32 := 1024#32
  let c0_i32_33 : BitVec 32 := 0#32
  let c1024_i32 : BitVec 32 := 1024#32
  let v51 : BitVec 32 := Scalar.subi v50 c1024_i32
  let c127_i32 : BitVec 32 := 127#32
  let v52 : BitVec 32 := Scalar.addi v51 c127_i32
  let c128_i32 : BitVec 32 := 128#32
  let v53 : BitVec 32 := Scalar.divsi v52 c128_i32
  let c0_i32_32 : BitVec 32 := 0#32
  let v54 : BitVec 32 := Scalar.maxsi v53 c0_i32_32
  let v55 : BitVec 32 := Scalar.subi v54 c0_i32_33
  let c1_i32_35 : BitVec 32 := 1#32
  let v57 : BitVec 32 := Scalar.divsi v55 c1_i32_35
  let v58 : BitVec 32 := Scalar.muli v57 c1_i32_35
  let v59 : BitVec 32 := Scalar.addi c0_i32_33 v58
  let c1_i32_37 : BitVec 32 := 1#32
  let arg16 : BitVec 32 := Scf.iv v59 c1_i32_37 k0_t6
  let c128_i32_57 : BitVec 32 := 128#32
  let v82 : BitVec 32 := Scalar.muli arg16 c128_i32_57
  let v83 : BitVec 32 := Scalar.addi c1024_i32_58 v82
  let c0_i32_66 : BitVec 32 := 0#32
  ![v47.toNat, v48.toNat, 0, v83.toNat, 0]

def k0_chk3 (i : grid0.Coords) (v50 : BitVec 32) : Prop :=
  ((k0_t5_loop v50).OK) ∧
  (∀ k0_t5 : Fin (k0_t5_loop v50).trips, ∀ a, (k0_off16 i v50 k0_t5) a + S1x8x128x128.size a ≤ S2x8x1024x128.size a) ∧
  (∀ k0_t5 : Fin (k0_t5_loop v50).trips, ∀ a, (k0_off17 i v50 k0_t5) a + S1x1x8x128x128.size a ≤ S8x2x8x2048x128.size a) ∧
  ((k0_t6_loop v50).OK) ∧
  (∀ k0_t6 : Fin (k0_t6_loop v50).trips, ∀ a, (k0_off19 i v50 k0_t6) a + S1x8x128x128.size a ≤ S2x8x1024x128.size a) ∧
  (∀ k0_t6 : Fin (k0_t6_loop v50).trips, ∀ a, (k0_off20 i v50 k0_t6) a + S1x1x8x128x128.size a ≤ S8x2x8x2048x128.size a)
theorem k0_t5_ok : ∀ (i : grid0.Coords) (v50 : BitVec 32) (k0_hw3 : k0_chk3 i v50), (k0_t5_loop v50).OK := fun i v50 k0_hw3 => k0_hw3.1
theorem k0_off16_inb : ∀ (i : grid0.Coords) (v50 : BitVec 32) (k0_hw3 : k0_chk3 i v50) (k0_t5 : Fin (k0_t5_loop v50).trips), ∀ a, (k0_off16 i v50 k0_t5) a + S1x8x128x128.size a ≤ S2x8x1024x128.size a := fun i v50 k0_hw3 k0_t5 => k0_hw3.2.1 k0_t5
theorem k0_off17_inb : ∀ (i : grid0.Coords) (v50 : BitVec 32) (k0_hw3 : k0_chk3 i v50) (k0_t5 : Fin (k0_t5_loop v50).trips), ∀ a, (k0_off17 i v50 k0_t5) a + S1x1x8x128x128.size a ≤ S8x2x8x2048x128.size a := fun i v50 k0_hw3 k0_t5 => k0_hw3.2.2.1 k0_t5
theorem k0_t6_ok : ∀ (i : grid0.Coords) (v50 : BitVec 32) (k0_hw3 : k0_chk3 i v50), (k0_t6_loop v50).OK := fun i v50 k0_hw3 => k0_hw3.2.2.2.1
theorem k0_off19_inb : ∀ (i : grid0.Coords) (v50 : BitVec 32) (k0_hw3 : k0_chk3 i v50) (k0_t6 : Fin (k0_t6_loop v50).trips), ∀ a, (k0_off19 i v50 k0_t6) a + S1x8x128x128.size a ≤ S2x8x1024x128.size a := fun i v50 k0_hw3 k0_t6 => k0_hw3.2.2.2.2.1 k0_t6
theorem k0_off20_inb : ∀ (i : grid0.Coords) (v50 : BitVec 32) (k0_hw3 : k0_chk3 i v50) (k0_t6 : Fin (k0_t6_loop v50).trips), ∀ a, (k0_off20 i v50 k0_t6) a + S1x1x8x128x128.size a ≤ S8x2x8x2048x128.size a := fun i v50 k0_hw3 k0_t6 => k0_hw3.2.2.2.2.2 k0_t6

@[reducible] def k0_t7_loop (v4 : BitVec 32) : Scf.Loop 32 :=
  let c0_i32_42 : BitVec 32 := 0#32
  let c1024_i32_38 : BitVec 32 := 1024#32
  let v62 : BitVec 32 := Scalar.subi v4 c1024_i32_38
  let c127_i32_39 : BitVec 32 := 127#32
  let v63 : BitVec 32 := Scalar.addi v62 c127_i32_39
  let c128_i32_40 : BitVec 32 := 128#32
  let v64 : BitVec 32 := Scalar.divsi v63 c128_i32_40
  let c0_i32_41 : BitVec 32 := 0#32
  let v65 : BitVec 32 := Scalar.maxsi v64 c0_i32_41
  let v66 : BitVec 32 := Scalar.subi v65 c0_i32_42
  let c1_i32_44 : BitVec 32 := 1#32
  let v68 : BitVec 32 := Scalar.divsi v66 c1_i32_44
  let v69 : BitVec 32 := Scalar.muli v68 c1_i32_44
  let v70 : BitVec 32 := Scalar.addi c0_i32_42 v69
  let c1_i32_45 : BitVec 32 := 1#32
  ⟨c0_i32_42, v70, c1_i32_45⟩

def k0_off21 (i : grid0.Coords) (v4 : BitVec 32) (k0_t7 : Fin (k0_t7_loop v4).trips) : Fin 4 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let v2 : BitVec 32 := Scalar.remsi v1 c2_i32_0
  let v83 : Index := Scalar.indexCast v2
  let c0_58 : Index := 0#32
  let c0_i32_42 : BitVec 32 := 0#32
  let c1_i32_45 : BitVec 32 := 1#32
  let arg16 : BitVec 32 := Scf.iv c0_i32_42 c1_i32_45 k0_t7
  let c128_i32_57 : BitVec 32 := 128#32
  let v82 : BitVec 32 := Scalar.muli arg16 c128_i32_57
  let v84 : Index := Scalar.indexCast v82
  let c0_59 : Index := 0#32
  ![v83.toNat, 0, v84.toNat, 0]
@[reducible] def k0_t8_loop (v4 : BitVec 32) : Scf.Loop 32 :=
  let c0_i32_42 : BitVec 32 := 0#32
  let c1024_i32_38 : BitVec 32 := 1024#32
  let v62 : BitVec 32 := Scalar.subi v4 c1024_i32_38
  let c127_i32_39 : BitVec 32 := 127#32
  let v63 : BitVec 32 := Scalar.addi v62 c127_i32_39
  let c128_i32_40 : BitVec 32 := 128#32
  let v64 : BitVec 32 := Scalar.divsi v63 c128_i32_40
  let c0_i32_41 : BitVec 32 := 0#32
  let v65 : BitVec 32 := Scalar.maxsi v64 c0_i32_41
  let v66 : BitVec 32 := Scalar.subi v65 c0_i32_42
  let c1_i32_44 : BitVec 32 := 1#32
  let v68 : BitVec 32 := Scalar.divsi v66 c1_i32_44
  let v69 : BitVec 32 := Scalar.muli v68 c1_i32_44
  let v70 : BitVec 32 := Scalar.addi c0_i32_42 v69
  let v67 : BitVec 32 := Scalar.addi c0_i32_42 v66
  let c1_i32_46 : BitVec 32 := 1#32
  ⟨v70, v67, c1_i32_46⟩
def k0_off22 (i : grid0.Coords) (v4 : BitVec 32) (k0_t8 : Fin (k0_t8_loop v4).trips) : Fin 4 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let v2 : BitVec 32 := Scalar.remsi v1 c2_i32_0
  let v83 : Index := Scalar.indexCast v2
  let c0_58 : Index := 0#32
  let c0_i32_42 : BitVec 32 := 0#32
  let c1024_i32_38 : BitVec 32 := 1024#32
  let v62 : BitVec 32 := Scalar.subi v4 c1024_i32_38
  let c127_i32_39 : BitVec 32 := 127#32
  let v63 : BitVec 32 := Scalar.addi v62 c127_i32_39
  let c128_i32_40 : BitVec 32 := 128#32
  let v64 : BitVec 32 := Scalar.divsi v63 c128_i32_40
  let c0_i32_41 : BitVec 32 := 0#32
  let v65 : BitVec 32 := Scalar.maxsi v64 c0_i32_41
  let v66 : BitVec 32 := Scalar.subi v65 c0_i32_42
  let c1_i32_44 : BitVec 32 := 1#32
  let v68 : BitVec 32 := Scalar.divsi v66 c1_i32_44
  let v69 : BitVec 32 := Scalar.muli v68 c1_i32_44
  let v70 : BitVec 32 := Scalar.addi c0_i32_42 v69
  let c1_i32_46 : BitVec 32 := 1#32
  let arg16 : BitVec 32 := Scf.iv v70 c1_i32_46 k0_t8
  let c128_i32_57 : BitVec 32 := 128#32
  let v82 : BitVec 32 := Scalar.muli arg16 c128_i32_57
  let v84 : Index := Scalar.indexCast v82
  let c0_59 : Index := 0#32
  ![v83.toNat, 0, v84.toNat, 0]

def k0_chk4 (i : grid0.Coords) (v4 : BitVec 32) : Prop :=
  ((k0_t7_loop v4).OK) ∧
  (∀ k0_t7 : Fin (k0_t7_loop v4).trips, ∀ a, (k0_off21 i v4 k0_t7) a + S1x8x128x128.size a ≤ S2x8x1024x128.size a) ∧
  ((k0_t8_loop v4).OK) ∧
  (∀ k0_t8 : Fin (k0_t8_loop v4).trips, ∀ a, (k0_off22 i v4 k0_t8) a + S1x8x128x128.size a ≤ S2x8x1024x128.size a)
theorem k0_t7_ok : ∀ (i : grid0.Coords) (v4 : BitVec 32) (k0_hw4 : k0_chk4 i v4), (k0_t7_loop v4).OK := fun i v4 k0_hw4 => k0_hw4.1
theorem k0_off21_inb : ∀ (i : grid0.Coords) (v4 : BitVec 32) (k0_hw4 : k0_chk4 i v4) (k0_t7 : Fin (k0_t7_loop v4).trips), ∀ a, (k0_off21 i v4 k0_t7) a + S1x8x128x128.size a ≤ S2x8x1024x128.size a := fun i v4 k0_hw4 k0_t7 => k0_hw4.2.1 k0_t7
theorem k0_t8_ok : ∀ (i : grid0.Coords) (v4 : BitVec 32) (k0_hw4 : k0_chk4 i v4), (k0_t8_loop v4).OK := fun i v4 k0_hw4 => k0_hw4.2.2.1
theorem k0_off22_inb : ∀ (i : grid0.Coords) (v4 : BitVec 32) (k0_hw4 : k0_chk4 i v4) (k0_t8 : Fin (k0_t8_loop v4).trips), ∀ a, (k0_off22 i v4 k0_t8) a + S1x8x128x128.size a ≤ S2x8x1024x128.size a := fun i v4 k0_hw4 k0_t8 => k0_hw4.2.2.2 k0_t8

def k0_cond4 (i : grid0.Coords) : BitVec 1 :=
  let arg1 : BitVec 32 := BitVec.ofNat 32 (i 1).val
  let c1_i32_53 : BitVec 32 := 1#32
  let v76 : BitVec 1 := Scalar.cmpi .eq arg1 c1_i32_53
  let v77 : BitVec 32 := Scalar.extui v76
  let c0_i32_54 : BitVec 32 := 0#32
  let v78 : BitVec 1 := Scalar.cmpi .ne v77 c0_i32_54
  v78

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x8x4x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x8x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x8x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x4x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== KernelIdeal.lean ====
variable {F : FTy → Type} [FloatOps F] [Named F]
def κ : String → Option EReal := fun
  | "mask" => some ⊥
  | "scale" => some (((Real.sqrt 128)⁻¹ : ℝ) : EReal)
  | _ => none
-- ==== ReferenceIdeal.lean ====
abbrev S8x32x128 : Shape := ⟨3, ![8, 32, 128]⟩
abbrev S8x2x8x2048x128 : Shape := ⟨5, ![8, 2, 8, 2048, 128]⟩
abbrev S8 : Shape := ⟨1, ![8]⟩
abbrev S2048 : Shape := ⟨1, ![2048]⟩
abbrev S1x2048 : Shape := ⟨2, ![1, 2048]⟩
abbrev S8x1 : Shape := ⟨2, ![8, 1]⟩
abbrev S8x2048 : Shape := ⟨2, ![8, 2048]⟩
abbrev S8x1x8x2048x128 : Shape := ⟨5, ![8, 1, 8, 2048, 128]⟩
abbrev S8x8x2048x128 : Shape := ⟨4, ![8, 8, 2048, 128]⟩
abbrev S8x8x4x2048x128 : Shape := ⟨5, ![8, 8, 4, 2048, 128]⟩
abbrev S8x32x2048x128 : Shape := ⟨4, ![8, 32, 2048, 128]⟩
abbrev S8x32x2048 : Shape := ⟨3, ![8, 32, 2048]⟩
abbrev S_ : Shape := ⟨0, ![]⟩
abbrev S8x1x2048 : Shape := ⟨3, ![8, 1, 2048]⟩
abbrev S8x32 : Shape := ⟨2, ![8, 32]⟩
abbrev S8x32x1 : Shape := ⟨3, ![8, 32, 1]⟩

abbrev nBuf : Space → Nat
  | .hbm => 78
  | .vmem => 0
  | .smem => 0
  | _ => 0

abbrev bufTy : (tb : Table) → Fin (tcTables nBuf tb) → BufTy
  | .hbm, ⟨0, _⟩ => ⟨S8x32x128, .f32⟩
  | .hbm, ⟨1, _⟩ => ⟨S8x2x8x2048x128, .f32⟩
  | .hbm, ⟨2, _⟩ => ⟨S8x2x8x2048x128, .f32⟩
  | .hbm, ⟨3, _⟩ => ⟨S8, .i32⟩
  | .hbm, ⟨4, _⟩ => ⟨S2048, .i32⟩
  | .hbm, ⟨5, _⟩ => ⟨S1x2048, .i32⟩
  | .hbm, ⟨6, _⟩ => ⟨S8x1, .i32⟩
  | .hbm, ⟨7, _⟩ => ⟨S8x2048, .i32⟩
  | .hbm, ⟨8, _⟩ => ⟨S8x2048, .i32⟩
  | .hbm, ⟨9, _⟩ => ⟨S8x2048, .i1⟩
  | .hbm, ⟨10, _⟩ => ⟨S8x1x8x2048x128, .f32⟩
  | .hbm, ⟨11, _⟩ => ⟨S8x8x2048x128, .f32⟩
  | .hbm, ⟨12, _⟩ => ⟨S8x8x4x2048x128, .f32⟩
  | .hbm, ⟨13, _⟩ => ⟨S8x32x2048x128, .f32⟩
  | .hbm, ⟨14, _⟩ => ⟨S8x1x8x2048x128, .f32⟩
  | .hbm, ⟨15, _⟩ => ⟨S8x8x2048x128, .f32⟩
  | .hbm, ⟨16, _⟩ => ⟨S8x8x4x2048x128, .f32⟩
  | .hbm, ⟨17, _⟩ => ⟨S8x32x2048x128, .f32⟩
  | .hbm, ⟨18, _⟩ => ⟨S8x32x2048, .f32⟩
  | .hbm, ⟨19, _⟩ => ⟨S_, .f32⟩
  | .hbm, ⟨20, _⟩ => ⟨S_, .f32⟩
  | .hbm, ⟨21, _⟩ => ⟨S8x32x2048, .f32⟩
  | .hbm, ⟨22, _⟩ => ⟨S8x32x2048, .f32⟩
  | .hbm, ⟨23, _⟩ => ⟨S8x1x2048, .i1⟩
  | .hbm, ⟨24, _⟩ => ⟨S_, .f32⟩
  | .hbm, ⟨25, _⟩ => ⟨S_, .f32⟩
  | .hbm, ⟨26, _⟩ => ⟨S8x32x2048, .i1⟩
  | .hbm, ⟨27, _⟩ => ⟨S8x32x2048, .f32⟩
  | .hbm, ⟨28, _⟩ => ⟨S8x32x2048, .f32⟩
  | .hbm, ⟨29, _⟩ => ⟨S_, .f32⟩
  | .hbm, ⟨30, _⟩ => ⟨S8x32, .f32⟩
  | .hbm, ⟨31, _⟩ => ⟨S_, .f32⟩
  | .hbm, ⟨32, _⟩ => ⟨S8x32, .f32⟩
  | .hbm, ⟨33, _⟩ => ⟨S8x32, .f32⟩
  | .hbm, ⟨34, _⟩ => ⟨S8x32x1, .f32⟩
  | .hbm, ⟨35, _⟩ => ⟨S8x32x2048, .f32⟩
  | .hbm, ⟨36, _⟩ => ⟨S8x32x2048, .f32⟩
  | .hbm, ⟨37, _⟩ => ⟨S8x32x2048, .f32⟩
  | .hbm, ⟨38, _⟩ => ⟨S_, .f32⟩
  | .hbm, ⟨39, _⟩ => ⟨S8x32, .f32⟩
  | .hbm, ⟨40, _⟩ => ⟨S8x32x1, .f32⟩
  | .hbm, ⟨41, _⟩ => ⟨S8x32x2048, .f32⟩
  | .hbm, ⟨42, _⟩ => ⟨S8x32x2048, .f32⟩
  | .hbm, ⟨43, _⟩ => ⟨S8x32x128, .f32⟩
  | .hbm, ⟨44, _⟩ => ⟨S8x1x8x2048x128, .f32⟩
  | .hbm, ⟨45, _⟩ => ⟨S8x8x2048x128, .f32⟩
  | .hbm, ⟨46, _⟩ => ⟨S8x8x4x2048x128, .f32⟩
  | .hbm, ⟨47, _⟩ => ⟨S8x32x2048x128, .f32⟩
  | .hbm, ⟨48, _⟩ => ⟨S8x1x8x2048x128, .f32⟩
  | .hbm, ⟨49, _⟩ => ⟨S8x8x2048x128, .f32⟩
  | .hbm, ⟨50, _⟩ => ⟨S8x8x4x2048x128, .f32⟩
  | .hbm, ⟨51, _⟩ => ⟨S8x32x2048x128, .f32⟩
  | .hbm, ⟨52, _⟩ => ⟨S8x32x2048, .f32⟩
  | .hbm, ⟨53, _⟩ => ⟨S_, .f32⟩
  | .hbm, ⟨54, _⟩ => ⟨S_, .f32⟩
  | .hbm, ⟨55, _⟩ => ⟨S8x32x2048, .f32⟩
  | .hbm, ⟨56, _⟩ => ⟨S8x32x2048, .f32⟩
  | .hbm, ⟨57, _⟩ => ⟨S8x1x2048, .i1⟩
  | .hbm, ⟨58, _⟩ => ⟨S_, .f32⟩
  | .hbm, ⟨59, _⟩ => ⟨S_, .f32⟩
  | .hbm, ⟨60, _⟩ => ⟨S8x32x2048, .i1⟩
  | .hbm, ⟨61, _⟩ => ⟨S8x32x2048, .f32⟩
  | .hbm, ⟨62, _⟩ => ⟨S8x32x2048, .f32⟩
  | .hbm, ⟨63, _⟩ => ⟨S_, .f32⟩
  | .hbm, ⟨64, _⟩ => ⟨S8x32, .f32⟩
  | .hbm, ⟨65, _⟩ => ⟨S_, .f32⟩
  | .hbm, ⟨66, _⟩ => ⟨S8x32, .f32⟩
  | .hbm, ⟨67, _⟩ => ⟨S8x32, .f32⟩
  | .hbm, ⟨68, _⟩ => ⟨S8x32x1, .f32⟩
  | .hbm, ⟨69, _⟩ => ⟨S8x32x2048, .f32⟩
  | .hbm, ⟨70, _⟩ => ⟨S8x32x2048, .f32⟩
  | .hbm, ⟨71, _⟩ => ⟨S8x32x2048, .f32⟩
  | .hbm, ⟨72, _⟩ => ⟨S_, .f32⟩
  | .hbm, ⟨73, _⟩ => ⟨S8x32, .f32⟩
  | .hbm, ⟨74, _⟩ => ⟨S8x32x1, .f32⟩
  | .hbm, ⟨75, _⟩ => ⟨S8x32x2048, .f32⟩
  | .hbm, ⟨76, _⟩ => ⟨S8x32x2048, .f32⟩
  | .hbm, ⟨77, _⟩ => ⟨S8x32x128, .f32⟩
  | _, _ => ⟨S8x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_0 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_4 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_5 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_v45 : Ref sig .tc := ⟨.hbm, 62, rfl⟩
abbrev main_cst_6 : Ref sig .tc := ⟨.hbm, 63, rfl⟩
abbrev main_v46 : Ref sig .tc := ⟨.hbm, 64, rfl⟩
abbrev main_cst_7 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_8 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩

abbrev nD : Nat := 1
abbrev τ : Topo := Topo.v7x

variable {F : FTy → Type} [FloatOps F]
-- ==== Proof.KPre.lean ====
/-
  The precondition read: every context length is from 1024 to 2048.
-/
module

public import proofs.«01_k».proof.Defs
public import Idealize.ShloMosaic.Lib.ValueIdx

@[expose] public section

noncomputable section

namespace Cert

open Idealize.ShloMosaic

/-- The precondition has no side condition but one broadcast. -/
instance facts_pre : Cert.Pre_context_in_range.Facts := ⟨by decide⟩

/-- Where the printed precondition is all ones, each length is in range. -/
theorem ctx_range {F : FTy → Type} [FloatOps F] {a0 : FVec F Pre_context_in_range.S8x32x128 .f32} {a1 a2 : FVec F Pre_context_in_range.S8x2x8x2048x128 .f32}
    {a3 : IVec Pre_context_in_range.S8 32} (h : Pre_context_in_range.fn (F := F) a0 a1 a2 a3 = fun _ => 1#1) (y : Pre_context_in_range.S8.Idx) :
    1024 ≤ (a3 y).toNat ∧ (a3 y).toNat ≤ 2048 := by
  have both (p q : Bool) : IntOp.andi (BitVec.ofBool p) (BitVec.ofBool q) = BitVec.ofBool (p && q) := by cases p <;> cases q <;> decide
  have one (p : Bool) : (BitVec.ofBool p = 1#1) ↔ p = true := by cases p <;> decide
  have e := congrFun h y
  simp only [Pre_context_in_range.fn, andi, cmpi, broadcastInDim, constantI, IntOp.cmpi, both, one, Bool.and_eq_true] at e
  obtain ⟨hge, hlt⟩ := e
  simp only [BitVec.sle, decide_eq_true_eq, BitVec.toInt, BitVec.toNat_ofNat] at hge hlt
  omega

end Cert

end
-- ==== Proof.KFrame.lean ====
/-
  The frame: under the precondition the table's words are in range, so every execution ends with the arguments unchanged.
-/
module

public import proofs.«01_k».proof.Proof.KRun
public import proofs.«01_k».proof.Defs
public import proofs.«01_k».proof.Proof.KPre

@[expose] public section

noncomputable section

namespace Cert.Kernel.Gen

open Idealize.ShloMosaic Idealize.ShloMosaic.TcCoe Idealize.ShloMosaic.ValueIdx Idealize.SL.Sem

/-- The precondition, of the table's words. -/
theorem inR_of_pre (m : (ℓ : Loc nD τ sig) → Buf (Elt Bits) ℓ) (h : Cert.Pre_Kernel m) : ∀ c b, InR (wd c (tb m c) b) := by
  intro c b
  have e := Cert.ctx_range (h c) (ix1 b)
  unfold wd
  rw [tb_eq]
  exact e

/-- The frame. -/
theorem frame_k : Cert.quiescent_Kernel := fun m ρ h =>
  (θ_run defs _ _).mono (fun _ h => ⟨fun c => (h.1 c).2, h.2⟩) (run_main m (inR_of_pre m h) ρ)

end Cert.Kernel.Gen

end
-- ==== Proof.IWord.lean ====
/-
  The words of the kernel: what its index arithmetic computes when the context length read from the table lies in
  [1024, 2048]. The number of tail chunks of 128 positions beyond the first 1024 is `nc w`; each of the four main loops
  runs `nc w` trips, each remainder loop none, and every offset is the plain natural number one expects.
-/
module

public import proofs.«01_k».proof.Proof.Gen.KernelIdeal
public import proofs.«01_k».proof.Proof.Gen.KernelIdeal.Skeleton

@[expose] public section

noncomputable section

namespace Cert.KernelIdeal.Gen

open Idealize.ShloMosaic

/-- A context length the precondition admits. -/
def InR (w : BitVec 32) : Prop := 1024 ≤ w.toNat ∧ w.toNat ≤ 2048

/-- The number of tail chunks of a context length. -/
def nc (w : BitVec 32) : ℕ := (w.toNat - 1024 + 127) / 128

theorem nc_le {w : BitVec 32} (h : InR w) : nc w ≤ 8 := by
  obtain ⟨h1, h2⟩ := h; unfold nc; omega

/-- A property of the words in range, checked at each of the 1025 of them. -/
theorem of_all {P : BitVec 32 → Prop} (h : ∀ n : Fin 1025, P (BitVec.ofNat 32 (1024 + n.val))) {w : BitVec 32} (hw : InR w) : P w := by
  obtain ⟨h1, h2⟩ := hw
  have := h ⟨w.toNat - 1024, by omega⟩
  rwa [show 1024 + (w.toNat - 1024) = w.toNat by omega, BitVec.ofNat_toNat, BitVec.setWidth_eq] at this

theorem main_ok {w : BitVec 32} (hw : InR w) : (k0_t1_loop w).trips = nc w ∧ (k0_t1_loop w).OK ∧ (k0_t2_loop w).trips = 0 ∧ (k0_t2_loop w).OK := by
  refine of_all (P := fun w => (k0_t1_loop w).trips = nc w ∧ (k0_t1_loop w).OK ∧ (k0_t2_loop w).trips = 0 ∧ (k0_t2_loop w).OK) ?_ hw
  decide +kernel

theorem trips1 {w : BitVec 32} (hw : InR w) : (k0_t1_loop w).trips = nc w := (main_ok hw).1
theorem trips3 {w : BitVec 32} (hw : InR w) : (k0_t3_loop w).trips = nc w := (main_ok hw).1
theorem trips5 {w : BitVec 32} (hw : InR w) : (k0_t5_loop w).trips = nc w := (main_ok hw).1
theorem trips7 {w : BitVec 32} (hw : InR w) : (k0_t7_loop w).trips = nc w := (main_ok hw).1
theorem trips2 {w : BitVec 32} (hw : InR w) : (k0_t2_loop w).trips = 0 := (main_ok hw).2.2.1
theorem trips4 {w : BitVec 32} (hw : InR w) : (k0_t4_loop w).trips = 0 := (main_ok hw).2.2.1
theorem trips6 {w : BitVec 32} (hw : InR w) : (k0_t6_loop w).trips = 0 := (main_ok hw).2.2.1
theorem trips8 {w : BitVec 32} (hw : InR w) : (k0_t8_loop w).trips = 0 := (main_ok hw).2.2.1

/-- The linear number of a grid point: twice the batch plus the layer. -/
def pr (i : grid0.Coords) : ℕ := 2 * (i 0).val + (i 1).val

theorem pr_lt (i : grid0.Coords) : pr i < 16 := by
  have h0 : (i 0).val < 8 := (i 0).isLt
  have h1 : (i 1).val < 2 := (i 1).isLt
  unfold pr; omega

/-- The wide word of a small trip. -/
theorem iv_eq (k : ℕ) : Scf.iv 0#32 1#32 k = BitVec.ofNat 32 k := by
  unfold Scf.iv; simp

theorem w99 : ∀ k : Fin 8, (Scalar.muli (BitVec.ofNat 32 k.val) 128#32).toNat = 128 * k.val := by decide +kernel
theorem w98 : ∀ k : Fin 8, (Scalar.addi 1024#32 (Scalar.muli (BitVec.ofNat 32 k.val) 128#32)).toNat = 1024 + 128 * k.val := by decide +kernel

/-- The word of a point's linear number. -/
abbrev prw (a b : ℕ) : BitVec 32 := Scalar.addi (Scalar.muli (BitVec.ofNat 32 a) 2#32) (BitVec.ofNat 32 b)

theorem w_slot : ∀ (a : Fin 8) (b : Fin 2), (Scalar.remsi (prw a.val b.val) 2#32).toNat = (2 * a.val + b.val) % 2 := by decide +kernel
theorem w_half : ∀ (a : Fin 8) (b : Fin 2), (Scalar.divsi (prw a.val b.val) 2#32).toNat = (2 * a.val + b.val) / 2 := by decide +kernel
theorem w_other : ∀ (a : Fin 8) (b : Fin 2), (Scalar.subi 1#32 (Scalar.remsi (prw a.val b.val) 2#32)).toNat = (2 * a.val + b.val + 1) % 2 := by decide +kernel
theorem w_nhalf : ∀ (a : Fin 8) (b : Fin 2), (Scalar.divsi (Scalar.addi (prw a.val b.val) 1#32) 2#32).toNat = (2 * a.val + b.val + 1) / 2 := by decide +kernel
theorem w_nslot : ∀ (a : Fin 8) (b : Fin 2), (Scalar.remsi (Scalar.addi (prw a.val b.val) 1#32) 2#32).toNat = (2 * a.val + b.val + 1) % 2 := by decide +kernel
theorem w_c1 : ∀ (a : Fin 8) (b : Fin 2), Scalar.cmpi .ne (Scalar.extui (Scalar.cmpi .eq (prw a.val b.val) 0#32) : BitVec 32) 0#32 = 1#1 ↔ 2 * a.val + b.val = 0 := by decide +kernel
theorem w_c2 : ∀ (a : Fin 8) (b : Fin 2), Scalar.cmpi .ne (Scalar.extui (Scalar.cmpi .slt (Scalar.addi (prw a.val b.val) 1#32) 16#32) : BitVec 32) 0#32 = 1#1 ↔ 2 * a.val + b.val + 1 < 16 := by decide +kernel

theorem cond1_iff (i : grid0.Coords) : k0_cond1 i = 1#1 ↔ pr i = 0 := w_c1 (i 0) (i 1)
theorem cond2_iff (i : grid0.Coords) : k0_cond2 i = 1#1 ↔ pr i + 1 < 16 := w_c2 (i 0) (i 1)
/-- The layer's word tested against zero, one and below one, as the body does. -/
theorem w_l0 : ∀ b : Fin 2, Scalar.cmpi .ne (Scalar.extui (Scalar.cmpi .eq (BitVec.ofNat 32 b.val) 0#32) : BitVec 32) 0#32 = 1#1 ↔ b.val = 0 := by decide +kernel
theorem w_l1 : ∀ b : Fin 2, Scalar.cmpi .ne (Scalar.extui (Scalar.cmpi .eq (BitVec.ofNat 32 b.val) 1#32) : BitVec 32) 0#32 = 1#1 ↔ b.val = 1 := by decide +kernel
theorem w_ll : ∀ b : Fin 2, Scalar.cmpi .ne (Scalar.extui (Scalar.cmpi .slt (BitVec.ofNat 32 b.val) 1#32) : BitVec 32) 0#32 = 1#1 ↔ b.val = 0 := by decide +kernel
theorem cond4_iff (i : grid0.Coords) : k0_cond4 i = 1#1 ↔ (i 1).val = 1 := w_l1 (i 1)

/-! ### The offsets -/

theorem off1_eq (i : grid0.Coords) : k0_off1 i = ![(i 0).val] := by
  have h : ∀ a : Fin 8, (Scalar.indexCast (BitVec.ofNat 32 a.val) : Index).toNat = a.val := by decide +kernel
  exact congrArg (fun x : ℕ => ![x]) (h (i 0))
theorem off2_eq : k0_off2 = ![0] := rfl
theorem off7_eq (i : grid0.Coords) : k0_off7 i = ![(pr i + 1) / 2] := congrArg (fun x : ℕ => ![x]) (w_nhalf (i 0) (i 1))
theorem off8_eq (i : grid0.Coords) : k0_off8 i = ![(pr i + 1) % 2] := congrArg (fun x : ℕ => ![x]) (w_other (i 0) (i 1))
theorem off14_eq (i : grid0.Coords) : k0_off14 i = ![pr i / 2] := congrArg (fun x : ℕ => ![x]) (w_half (i 0) (i 1))
theorem off15_eq (i : grid0.Coords) : k0_off15 i = ![pr i % 2] := congrArg (fun x : ℕ => ![x]) (w_slot (i 0) (i 1))

/-! The same words at a grid point. -/

theorem p_slot (i : grid0.Coords) : (Scalar.remsi (Scalar.addi (Scalar.muli (BitVec.ofNat 32 (i 0).val) 2#32) (BitVec.ofNat 32 (i 1).val)) 2#32).toNat = pr i % 2 := w_slot (i 0) (i 1)
theorem p_half (i : grid0.Coords) : (Scalar.divsi (Scalar.addi (Scalar.muli (BitVec.ofNat 32 (i 0).val) 2#32) (BitVec.ofNat 32 (i 1).val)) 2#32).toNat = pr i / 2 := w_half (i 0) (i 1)
theorem p_other (i : grid0.Coords) : (Scalar.subi 1#32 (Scalar.remsi (Scalar.addi (Scalar.muli (BitVec.ofNat 32 (i 0).val) 2#32) (BitVec.ofNat 32 (i 1).val)) 2#32)).toNat = (pr i + 1) % 2 := w_other (i 0) (i 1)
theorem p_nhalf (i : grid0.Coords) : (Scalar.divsi (Scalar.addi (Scalar.addi (Scalar.muli (BitVec.ofNat 32 (i 0).val) 2#32) (BitVec.ofNat 32 (i 1).val)) 1#32) 2#32).toNat = (pr i + 1) / 2 := w_nhalf (i 0) (i 1)
theorem p_nslot (i : grid0.Coords) : (Scalar.remsi (Scalar.addi (Scalar.addi (Scalar.muli (BitVec.ofNat 32 (i 0).val) 2#32) (BitVec.ofNat 32 (i 1).val)) 1#32) 2#32).toNat = (pr i + 1) % 2 := w_nslot (i 0) (i 1)

section offs
variable {w : BitVec 32} (hw : InR w) (i : grid0.Coords)
include hw

theorem off3_eq (k : Fin (k0_t1_loop w).trips) : k0_off3 w k = ![0, 0, 128 * k.val, 0] := by
  have hk : k.val < 8 := lt_of_lt_of_le (lt_of_lt_of_eq k.isLt (trips1 hw)) (nc_le hw)
  unfold k0_off3; simp only [iv_eq]; rw [w99 ⟨k.val, hk⟩]

theorem off4_eq (k : Fin (k0_t1_loop w).trips) : k0_off4 w k = ![0, 0, 0, 1024 + 128 * k.val, 0] := by
  have hk : k.val < 8 := lt_of_lt_of_le (lt_of_lt_of_eq k.isLt (trips1 hw)) (nc_le hw)
  unfold k0_off4; simp only [iv_eq]; rw [w98 ⟨k.val, hk⟩]; rfl

theorem off9_eq (k : Fin (k0_t3_loop w).trips) : k0_off9 i w k = ![(pr i + 1) % 2, 0, 128 * k.val, 0] := by
  have hk : k.val < 8 := lt_of_lt_of_le (lt_of_lt_of_eq k.isLt (trips3 hw)) (nc_le hw)
  unfold k0_off9; simp only [iv_eq]; rw [w99 ⟨k.val, hk⟩, p_other]

theorem off10_eq (k : Fin (k0_t3_loop w).trips) : k0_off10 i w k = ![(pr i + 1) / 2, (pr i + 1) % 2, 0, 1024 + 128 * k.val, 0] := by
  have hk : k.val < 8 := lt_of_lt_of_le (lt_of_lt_of_eq k.isLt (trips3 hw)) (nc_le hw)
  unfold k0_off10; simp only [iv_eq]; rw [w98 ⟨k.val, hk⟩, p_nhalf, p_nslot]

theorem off16_eq (k : Fin (k0_t5_loop w).trips) : k0_off16 i w k = ![pr i % 2, 0, 128 * k.val, 0] := by
  have hk : k.val < 8 := lt_of_lt_of_le (lt_of_lt_of_eq k.isLt (trips5 hw)) (nc_le hw)
  unfold k0_off16; simp only [iv_eq]; rw [w99 ⟨k.val, hk⟩, p_slot]

theorem off17_eq (k : Fin (k0_t5_loop w).trips) : k0_off17 i w k = ![pr i / 2, pr i % 2, 0, 1024 + 128 * k.val, 0] := by
  have hk : k.val < 8 := lt_of_lt_of_le (lt_of_lt_of_eq k.isLt (trips5 hw)) (nc_le hw)
  unfold k0_off17; simp only [iv_eq]; rw [w98 ⟨k.val, hk⟩, p_half, p_slot]

theorem off21_eq (k : Fin (k0_t7_loop w).trips) : k0_off21 i w k = ![pr i % 2, 0, 128 * k.val, 0] := by
  have hk : k.val < 8 := lt_of_lt_of_le (lt_of_lt_of_eq k.isLt (trips7 hw)) (nc_le hw)
  unfold k0_off21; simp only [iv_eq, Scalar.indexCast]; rw [p_slot, w99 ⟨k.val, hk⟩]

/-! ### The side conditions the body assumes of the words it reads -/

omit hw in
theorem tail_inb {s k : ℕ} (hs : s < 2) (hk : k < 8) : ∀ a, (![s, 0, 128 * k, 0] : Fin 4 → ℕ) a + S1x8x128x128.size a ≤ S2x8x1024x128.size a := by
  intro a; fin_cases a
  · show s + 1 ≤ 2; omega
  · show 0 + 8 ≤ 8; omega
  · show 128 * k + 128 ≤ 1024; omega
  · show 0 + 128 ≤ 128; omega

omit hw in
theorem src_inb {b l k : ℕ} (hb : b < 8) (hl : l < 2) (hk : k < 8) :
    ∀ a, (![b, l, 0, 1024 + 128 * k, 0] : Fin 5 → ℕ) a + S1x1x8x128x128.size a ≤ S8x2x8x2048x128.size a := by
  intro a; fin_cases a
  · show b + 1 ≤ 8; omega
  · show l + 1 ≤ 2; omega
  · show 0 + 8 ≤ 8; omega
  · show 1024 + 128 * k + 128 ≤ 2048; omega
  · show 0 + 128 ≤ 128; omega

theorem chk1 : k0_chk1 i w := by
  refine ⟨fun _ => (main_ok hw).2.1, fun k _ => ?_, fun k _ => ?_, fun _ => (main_ok hw).2.2.2, fun k => ?_, fun k => ?_⟩
  · rw [off3_eq hw]; exact tail_inb (by omega) (lt_of_lt_of_le (lt_of_lt_of_eq k.isLt (trips1 hw)) (nc_le hw))
  · rw [off4_eq hw]; exact src_inb (by omega) (by omega) (lt_of_lt_of_le (lt_of_lt_of_eq k.isLt (trips1 hw)) (nc_le hw))
  · exact absurd (lt_of_lt_of_eq k.isLt (trips2 hw)) (Nat.not_lt_zero _)
  · exact absurd (lt_of_lt_of_eq k.isLt (trips2 hw)) (Nat.not_lt_zero _)

theorem chk2 : k0_chk2 i w := by
  refine ⟨fun _ => (main_ok hw).2.1, fun k _ => ?_, fun k h2 => ?_, fun _ => (main_ok hw).2.2.2, fun k => ?_, fun k => ?_⟩
  · rw [off9_eq hw]; exact tail_inb (by omega) (lt_of_lt_of_le (lt_of_lt_of_eq k.isLt (trips3 hw)) (nc_le hw))
  · rw [off10_eq hw]; exact src_inb (by have := (cond2_iff i).mp h2; omega) (by omega) (lt_of_lt_of_le (lt_of_lt_of_eq k.isLt (trips3 hw)) (nc_le hw))
  · exact absurd (lt_of_lt_of_eq k.isLt (trips4 hw)) (Nat.not_lt_zero _)
  · exact absurd (lt_of_lt_of_eq k.isLt (trips4 hw)) (Nat.not_lt_zero _)

theorem chk3 : k0_chk3 i w := by
  have hp := pr_lt i
  refine ⟨(main_ok hw).2.1, fun k => ?_, fun k => ?_, (main_ok hw).2.2.2, fun k => ?_, fun k => ?_⟩
  · rw [off16_eq hw]; exact tail_inb (by omega) (lt_of_lt_of_le (lt_of_lt_of_eq k.isLt (trips5 hw)) (nc_le hw))
  · rw [off17_eq hw]; exact src_inb (by omega) (by omega) (lt_of_lt_of_le (lt_of_lt_of_eq k.isLt (trips5 hw)) (nc_le hw))
  · exact absurd (lt_of_lt_of_eq k.isLt (trips6 hw)) (Nat.not_lt_zero _)
  · exact absurd (lt_of_lt_of_eq k.isLt (trips6 hw)) (Nat.not_lt_zero _)

theorem chk4 : k0_chk4 i w := by
  refine ⟨(main_ok hw).2.1, fun k => ?_, (main_ok hw).2.2.2, fun k => ?_⟩
  · rw [off21_eq hw]; exact tail_inb (by omega) (lt_of_lt_of_le (lt_of_lt_of_eq k.isLt (trips7 hw)) (nc_le hw))
  · exact absurd (lt_of_lt_of_eq k.isLt (trips8 hw)) (Nat.not_lt_zero _)

end offs

end Cert.KernelIdeal.Gen

end
-- ==== Proof.IBlocks.lean ====
/-
  The tail blocks of the kernel: a slot of a tail buffer is eight blocks of 128 positions, and one transfer fills one
  block from the cache. This file names the blocks, the part of the cache each is filled from and the semaphore of a
  slot, says which element a block's element is filled with, and gives the rules for one transfer's start and one wait.
-/
module

public import proofs.«01_k».proof.Proof.IWord
public import Idealize.ShloMosaic.Lib.Tactic
public import Idealize.ShloMosaic.Lib.Batch
public import Idealize.ShloMosaic.Lib.Ring
public import Idealize.ShloMosaic.Lib.ValueLayout
public import Idealize.ShloMosaic.Lib.Pipeline.Kit

@[expose] public section

noncomputable section

namespace Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F] [Named F]

/-- The resource algebra: the pipeline library's, beside the counters of the transfers. -/
abbrev UU (nD : Nat) (τ : Topo) : Type := UR sig nD τ × Counters

local notation "𝕄" => MT nD τ sig Unit (Elt F) ℕ (UU nD τ) ℕ

/-- A buffer's contents on core `c`, and it held whole. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- A tail buffer, a cache. -/
abbrev TailRef := Memref sig .tc .vmem S2x8x1024x128 .f32
abbrev CacheRef := Memref sig .tc .hbm S8x2x8x2048x128 .f32

/-- Block `k` of slot `s` of a tail buffer. -/
def tB (D : TailRef) (s : Fin 2) (k : Fin 8) : Memref sig .tc .vmem S8x128x128 .f32 :=
  (D.slice (Rect.unit (s := S2x8x1024x128) ![s.val, 0, 128 * k.val, 0] S1x8x128x128.size (tail_inb s.isLt k.isLt)) (fun _ => rfl)).squeeze S8x128x128 squeezes_S1x8x128x128_S8x128x128
/-- The positions `1024 + 128 k …` of batch `b`, layer `l` of a cache. -/
def sB (M : CacheRef) (b : Fin 8) (l : Fin 2) (k : Fin 8) : Memref sig .tc .hbm S8x128x128 .f32 :=
  (M.slice (Rect.unit (s := S8x2x8x2048x128) ![b.val, l.val, 0, 1024 + 128 * k.val, 0] S1x1x8x128x128.size (src_inb b.isLt l.isLt k.isLt)) (fun _ => rfl)).squeeze S8x128x128 squeezes_S1x1x8x128x128_S8x128x128

theorem cell_inb (s : Fin 2) : ∀ a, (![s.val] : Fin 1 → ℕ) a + S1.size a ≤ S2.size a := by
  have := s.isLt; intro a; fin_cases a; show s.val + 1 ≤ 2; omega
/-- The semaphore of slot `s`. -/
def cell (s : Fin 2) : DmaSem sig := ((cc0_scratch6.slice (Rect.unit (s := S2) ![s.val] S1.size (cell_inb s))).squeeze S_ squeezes_S1_S_).sem

theorem tB_of (D : TailRef) {off : Fin 4 → ℕ} (h : ∀ a, off a + S1x8x128x128.size a ≤ S2x8x1024x128.size a) (s : Fin 2) (k : Fin 8)
    (e : off = ![s.val, 0, 128 * k.val, 0]) :
    (D.slice (Rect.unit (s := S2x8x1024x128) off S1x8x128x128.size h) (fun _ => rfl)).squeeze S8x128x128 squeezes_S1x8x128x128_S8x128x128 = tB D s k := by
  subst e; rfl
theorem sB_of (M : CacheRef) {off : Fin 5 → ℕ} (h : ∀ a, off a + S1x1x8x128x128.size a ≤ S8x2x8x2048x128.size a) (b : Fin 8) (l : Fin 2) (k : Fin 8)
    (e : off = ![b.val, l.val, 0, 1024 + 128 * k.val, 0]) :
    (M.slice (Rect.unit (s := S8x2x8x2048x128) off S1x1x8x128x128.size h) (fun _ => rfl)).squeeze S8x128x128 squeezes_S1x1x8x128x128_S8x128x128 = sB M b l k := by
  subst e; rfl
theorem cell_of {off : Fin 1 → ℕ} (h : ∀ a, off a + S1.size a ≤ S2.size a) (s : Fin 2) (e : off = ![s.val]) :
    ((cc0_scratch6.slice (Rect.unit (s := S2) off S1.size h)).squeeze S_ squeezes_S1_S_).sem = cell s := by
  subst e; rfl

/-! ## Which elements -/

/-- The elements of block `i` of slot `s`. -/
def tset (s : Fin 2) (i : ℕ) : Finset S2x8x1024x128.Idx :=
  Finset.univ.filter fun x => (x 0).val = s.val ∧ 128 * i ≤ (x 2).val ∧ (x 2).val < 128 * i + 128

theorem mem_tset (s : Fin 2) (i : ℕ) (x : S2x8x1024x128.Idx) : x ∈ tset s i ↔ (x 0).val = s.val ∧ 128 * i ≤ (x 2).val ∧ (x 2).val < 128 * i + 128 := by
  simp [tset]

theorem tset_eq (s : Fin 2) (k : Fin 8) :
    tset s k.val = (Rect.unit (s := S2x8x1024x128) ![s.val, 0, 128 * k.val, 0] S1x8x128x128.size (tail_inb s.isLt k.isLt)).set := by
  ext x
  rw [mem_tset, Rect.mem_set_unit]
  have h1 : (x 1).val < 8 := (x 1).isLt
  have h3 : (x 3).val < 128 := (x 3).isLt
  constructor
  · rintro ⟨e0, l2, u2⟩ a
    fin_cases a
    · show s.val ≤ (x 0).val ∧ (x 0).val < s.val + 1; omega
    · show 0 ≤ (x 1).val ∧ (x 1).val < 0 + 8; omega
    · show 128 * k.val ≤ (x 2).val ∧ (x 2).val < 128 * k.val + 128; omega
    · show 0 ≤ (x 3).val ∧ (x 3).val < 0 + 128; omega
  · intro H
    have a0 : s.val ≤ (x 0).val ∧ (x 0).val < s.val + 1 := H 0
    have a2 : 128 * k.val ≤ (x 2).val ∧ (x 2).val < 128 * k.val + 128 := H 2
    omega

theorem tB_set (D : TailRef) (s : Fin 2) (k : Fin 8) : (tB D s k).view.set = D.view.setOn (tset s k.val) := by
  rw [tset_eq]; unfold tB; exact (View.set_reshape _ _).trans (View.set_slice _ _)

/-- The cache element a tail element of batch `b`, layer `l` is filled with. -/
def srcIx (b : Fin 8) (l : Fin 2) (x : S2x8x1024x128.Idx) : S8x2x8x2048x128.Idx :=
  ix5 b l (x 1) (⟨1024 + (x 2).val, by have : (x 2).val < 1024 := (x 2).isLt; omega⟩ : Fin 2048) (x 3)

theorem tB_emb (D : TailRef) (s : Fin 2) (k : Fin 8) (a : Fin 8) (p q : Fin 128) :
    (tB D s k).view.emb (ix3 a p q) = D.view.emb (ix4 s a (⟨128 * k.val + p.val, by omega⟩ : Fin 1024) q) := by
  show D.view.emb ((Rect.unit (s := S2x8x1024x128) ![s.val, 0, 128 * k.val, 0] S1x8x128x128.size (tail_inb s.isLt k.isLt)).emb (Shape.reshapeEquiv _ (ix3 a p q))) = _
  rw [show Shape.reshapeEquiv _ (ix3 a p q) = ix4 (⟨0, Nat.one_pos⟩ : Fin 1) a p q from reshapeEquiv_ix3_1abc _ a p q]
  congr 1
  funext ax
  apply Fin.ext
  rw [Rect.emb_apply]
  fin_cases ax
  · show s.val + 1 * 0 = s.val; omega
  · show 0 + 1 * a.val = a.val; omega
  · show 128 * k.val + 1 * p.val = 128 * k.val + p.val; omega
  · show 0 + 1 * q.val = q.val; omega

theorem sB_emb (M : CacheRef) (b : Fin 8) (l : Fin 2) (k : Fin 8) (a : Fin 8) (p q : Fin 128) :
    (sB M b l k).view.emb (ix3 a p q) = M.view.emb (ix5 b l a (⟨1024 + 128 * k.val + p.val, by omega⟩ : Fin 2048) q) := by
  show M.view.emb ((Rect.unit (s := S8x2x8x2048x128) ![b.val, l.val, 0, 1024 + 128 * k.val, 0] S1x1x8x128x128.size (src_inb b.isLt l.isLt k.isLt)).emb (Shape.reshapeEquiv _ (ix3 a p q))) = _
  rw [show Shape.reshapeEquiv _ (ix3 a p q) = ix5 (⟨0, Nat.one_pos⟩ : Fin 1) (⟨0, Nat.one_pos⟩ : Fin 1) a p q from reshapeEquiv_ix3_11abc _ a p q]
  congr 1
  funext ax
  apply Fin.ext
  rw [Rect.emb_apply]
  fin_cases ax
  · show b.val + 1 * 0 = b.val; omega
  · show l.val + 1 * 0 = l.val; omega
  · show 0 + 1 * a.val = a.val; omega
  · show 1024 + 128 * k.val + 1 * p.val = 1024 + 128 * k.val + p.val; omega
  · show 0 + 1 * q.val = q.val; omega

/-- Reading a block, or the part of the cache it is filled from, is reading the buffer under it. -/
theorem tB_read (D : TailRef) (s : Fin 2) (k : Fin 8) (g : D.view.ty.Contents (Elt F)) (a : Fin 8) (p q : Fin 128) :
    (tB D s k).view.read (Elt F) g (ix3 a p q) = D.view.read (Elt F) g (ix4 s a (⟨128 * k.val + p.val, by omega⟩ : Fin 1024) q) :=
  congrArg (fun z => cast (congrArg (Elt F) D.view.elt_eq) (g z)) (tB_emb D s k a p q)
theorem sB_read (M : CacheRef) (b : Fin 8) (l : Fin 2) (k : Fin 8) (g : M.view.ty.Contents (Elt F)) (a : Fin 8) (p q : Fin 128) :
    (sB M b l k).view.read (Elt F) g (ix3 a p q) = M.view.read (Elt F) g (ix5 b l a (⟨1024 + 128 * k.val + p.val, by omega⟩ : Fin 2048) q) :=
  congrArg (fun z => cast (congrArg (Elt F) M.view.elt_eq) (g z)) (sB_emb M b l k a p q)

/-- A block filled by its transfer holds the cache's elements. -/
theorem landed_value (D : TailRef) (M : CacheRef) (s : Fin 2) (k : Fin 8) (b : Fin 8) (l : Fin 2)
    (fd : D.view.ty.Contents (Elt F)) (fs : M.view.ty.Contents (Elt F)) (x : S2x8x1024x128.Idx) (hx : x ∈ tset s k.val) :
    D.view.read (Elt F) ((tB D s k).view.write (Elt F) fd ((sB M b l k).view.read (Elt F) fs) Finset.univ) x = M.view.read (Elt F) fs (srcIx b l x) := by
  obtain ⟨e0, l2, u2⟩ := (mem_tset _ _ _).1 hx
  have h2 : (x 2).val - 128 * k.val < 128 := by omega
  have hb : (x 2).val < 1024 := (x 2).isLt
  have ex : x = ix4 s (x 1) (⟨128 * k.val + ((x 2).val - 128 * k.val), by have := k.isLt; omega⟩ : Fin 1024) (x 3) := by
    funext ax; apply Fin.ext
    fin_cases ax
    · exact e0
    · rfl
    · show (x 2).val = 128 * k.val + ((x 2).val - 128 * k.val); omega
    · rfl
  refine (congrArg (D.view.read (Elt F) _) ex).trans ((tB_read D s k _ (x 1) ⟨(x 2).val - 128 * k.val, h2⟩ (x 3)).symm.trans
    ((congrFun (View.read_write_univ (v := (tB D s k).view) fd ((sB M b l k).view.read (Elt F) fs)) _).trans
      ((sB_read M b l k fs (x 1) ⟨(x 2).val - 128 * k.val, h2⟩ (x 3)).trans (congrArg (M.view.read (Elt F) fs) ?_))))
  unfold srcIx
  funext ax; apply Fin.ext
  fin_cases ax
  · rfl
  · rfl
  · rfl
  · show 1024 + 128 * k.val + ((x 2).val - 128 * k.val) = 1024 + (x 2).val; omega
  · rfl

/-! ## What a transfer delivers -/

section Transfers

variable (c : Dev nD)

/-- Block `i` of slot `s` of a tail buffer, at any contents; -/
def blk (D : TailRef) (s : Fin 2) (i : ℕ) : sProp 𝕄 :=
  iprop(∃ g, D.view.loc (c : Thread nD τ) ↦[D.view.setOn (tset s i)]{fullShare} g)
/-- filled from batch `b`, layer `l` of a cache. -/
def filled (D : TailRef) (M : CacheRef) (fs : Bf (F := F) c M) (b : Fin 8) (l : Fin 2) (s : Fin 2) (i : ℕ) : sProp 𝕄 :=
  iprop(∃ g : Bf (F := F) c D, ⌜∀ x ∈ tset s i, D.view.read (Elt F) g x = M.view.read (Elt F) fs (srcIx b l x)⌝
    ∗ D.view.loc (c : Thread nD τ) ↦[D.view.setOn (tset s i)]{fullShare} g)
/-- A cache, readable. -/
def rd (M : CacheRef) (fs : Bf (F := F) c M) : sProp 𝕄 := iprop(∃ q, M.view.loc (c : Thread nD τ) ↦{q} fs)

instance filled_storable (D : TailRef) (M : CacheRef) (fs : Bf (F := F) c M) (b : Fin 8) (l : Fin 2) (s : Fin 2) (i : ℕ) :
    BI.Storable (upEmb : UEmb _ 𝕄) (filled c D M fs b l s i) := by
  unfold filled; infer_instance

omit [FloatOps F] [Named F] in
theorem filled_blk (D : TailRef) (M : CacheRef) (fs : Bf (F := F) c M) (b : Fin 8) (l : Fin 2) (s : Fin 2) (i : ℕ) :
    filled c D M fs b l s i ⊢ blk c D s i := by
  unfold filled blk
  iintro ⟨%g, -, H⟩
  iexists g; iexact H

omit [FloatOps F] [Named F] in
theorem filled_intro (D : TailRef) (M : CacheRef) (fs : Bf (F := F) c M) (b : Fin 8) (l : Fin 2) (s : Fin 2) (i : ℕ) (g : Bf (F := F) c D)
    (h : ∀ x ∈ tset s i, D.view.read (Elt F) g x = M.view.read (Elt F) fs (srcIx b l x)) :
    (D.view.loc (c : Thread nD τ) ↦[D.view.setOn (tset s i)]{fullShare} g : sProp 𝕄) ⊢ filled c D M fs b l s i := by
  unfold filled
  iintro H
  iexists g
  isplitr
  · ipureintro; exact h
  · iexact H

/-- A readable cache stays readable when a part of it is lent. -/
theorem rd_lend (M : CacheRef) (fs : Bf (F := F) c M) (I : Finset (Idx (M.view.loc (c : Thread nD τ)))) :
    rd c M fs ⊢ iprop(rd c M fs ∗ ∃ q, M.view.loc (c : Thread nD τ) ↦[I]{q} fs) := by
  unfold rd
  iintro ⟨%q, H⟩
  ihave H' := (pointsTo_share (PosShare.mem_left_op_right q)).1 $$ H
  icases H' with ⟨H1, H2⟩
  isplitl [H1]; · iexists _; iexact H1
  ihave H2' := (pointsTo_split_subset (Finset.subset_univ I)).1 $$ H2
  icases H2' with ⟨H2, -⟩
  iexists _; iexact H2

/-- The units one block's transfer counts. -/
def NN : ℕ := (tB (Memref.whole cc0_scratch0) 0 0).view.dmaCredit

theorem NN_pos : 0 < NN := View.dmaCredit_pos _ (by decide)

/-- The transfers of a slot. -/
abbrev Bat (s : Fin 2) {n : ℕ} (Dl : Fin n → sProp 𝕄) (j u : ℕ) : sProp 𝕄 :=
  Transfers.Batch (countersEmb (U := UU nD τ)) (c : Thread nD τ) (.dma (cell s)) () NN Dl j u

variable {α : Type} {defs : Defs nD τ sig (Elt F) Λ₀}

/-- ONE TRANSFER STARTED: block `k` of slot `s` handed over, its filling promised. -/
theorem wp_fill (D : TailRef) (hN : ∀ s k, (tB D s k).view.dmaCredit = NN) (M : CacheRef) (fs : Bf (F := F) c M) (s : Fin 2) (k b : Fin 8) (l : Fin 2)
    {src : Memref sig .tc .hbm S8x128x128 .f32} {dst : Memref sig .tc .vmem S8x128x128 .f32} {sm : DmaSem sig}
    (es : src = sB M b l k) (ed : dst = tB D s k) (em : sm = cell s)
    {hs : src.view.WordExact} {hd : dst.view.WordExact} {ht : (DmaTarget.here dst : DmaTarget nD τ sig .tc .vmem S8x128x128 .f32).Typed .hbm (.dma sm)}
    {n : ℕ} {Dl : Fin n → sProp 𝕄} {j : ℕ} (hj : j < n) (hD : filled c D M fs b l s k.val ⊢ Dl ⟨j, hj⟩)
    {kk : PUnit → Prog (TpuEff nD τ sig (Elt F) Λ₀ .tc) α} {Q : α → sProp 𝕄} :
    iprop(rd c M fs ∗ blk c D s k.val ∗ Bat c s Dl j 0)
      ⊢ iprop((iprop(rd c M fs ∗ Bat c s Dl (j + 1) 0) -∗ wp frame (wpE defs Variants.none c none) Set.univ (kk ⟨⟩) Q)
        -∗ wp frame (wpE defs Variants.none c none) Set.univ (.op (.enqueueDma src (.here dst) (.dma sm) hs hd ht) kk) Q) := by
  subst es; subst ed; subst em
  iintro ⟨Hr, Hb, HB⟩ Hk
  ihave Hr' := (rd_lend c M fs (sB M b l k).view.set) $$ Hr
  icases Hr' with ⟨Hr, ⟨%q, Hs⟩⟩
  unfold blk
  icases Hb with ⟨%g, Hb⟩
  iapply (Transfers.wp_dmaBatch (countersEmb (U := UU nD τ)) Variants.none (c : Thread nD τ) none (src := sB M b l k) (dst := tB D s k) (fs := fs) (fd := g) (q := q)
    (Sd := D.view.setOn (tset s k.val)) (D := Dl) (j := j) (u := 0) () NN (show (tB D s k).view.amount (.dma (cell s)) = NN from hN s k) (le_of_eq (tB_set D s k)) hj (Nat.zero_le _) ?_) $$ [Hs Hb HB]
  · exact sep_elim_left.trans ((filled_intro c D M fs b l s k.val _ (landed_value D M s k b l g fs)).trans hD)
  · isplitl [Hs]; · iexact Hs
    isplitl [Hb]; · iexact Hb
    iexact HB
  iintro HB
  iapply Hk
  isplitl [Hr]; · iexact Hr
  iexact HB

/-- ONE WAIT: a block's units taken off a slot's semaphore. -/
theorem wp_drain (D : TailRef) (hN : ∀ s k, (tB D s k).view.dmaCredit = NN) (s : Fin 2) (k : Fin 8)
    {src : Memref sig .tc .hbm S8x128x128 .f32} {dst : Memref sig .tc .vmem S8x128x128 .f32} {sm : DmaSem sig}
    (ed : dst = tB D s k) (em : sm = cell s)
    {hs : src.view.WordExact} {hd : dst.view.WordExact}
    {n : ℕ} {Dl : Fin n → sProp 𝕄} {j u : ℕ} (hu : u + NN ≤ NN * j)
    {kk : PUnit → Prog (TpuEff nD τ sig (Elt F) Λ₀ .tc) α} {Q : α → sProp 𝕄} :
    iprop(Bat c s Dl j u ∗ ∃ W, owes (c : Thread nD τ) 0 W)
      ⊢ iprop((iprop(Bat c s Dl j (u + NN) ∗ ∃ W, owes (c : Thread nD τ) 0 W) -∗ wp frame (wpE defs Variants.none c none) Set.univ (kk ⟨⟩) Q)
        -∗ wp frame (wpE defs Variants.none c none) Set.univ (.op (.waitDma2 sm src dst hs hd) kk) Q) := by
  subst ed; subst em
  iintro ⟨HB, ⟨%W, HO⟩⟩ Hk
  iapply (Transfers.wp_waitBatchMul (countersEmb (U := UU nD τ)) Variants.none (c : Thread nD τ) none (dstw := tB D s k) (D := Dl) () (N := NN) 1 ((hN s k).trans (Nat.one_mul _).symm)
    (by rw [Nat.one_mul]; exact hu)) $$ [HB HO]
  · isplitl [HB]; · iexact HB
    iexact HO
  rw [Nat.one_mul]
  iintro ⟨HB, HO⟩
  iapply Hk
  isplitl [HB]; · iexact HB
  iexists _; iexact HO

theorem hN0 : ∀ s k, (tB (Memref.whole cc0_scratch0) s k).view.dmaCredit = NN := fun _ _ => rfl
theorem hN1 : ∀ s k, (tB (Memref.whole cc0_scratch1) s k).view.dmaCredit = NN := fun _ _ => rfl

end Transfers

end Cert.KernelIdeal.Gen

end
-- ==== Proof.ISlots.lean ====
/-
  The kernel's transfer loops: the loop that starts a slot's transfers, the loop that waits for them, and what a slot
  holds before, between and after the two.
-/
module

public import proofs.«01_k».proof.Proof.IBlocks

@[expose] public section

noncomputable section

namespace Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F] [Named F]

local notation "𝕄" => MT nD τ sig Unit (Elt F) ℕ (UU nD τ) ℕ

abbrev D0 : TailRef := Memref.whole cc0_scratch0
abbrev D1 : TailRef := Memref.whole cc0_scratch1
abbrev M1 : CacheRef := Memref.whole main_arg1
abbrev M2 : CacheRef := Memref.whole main_arg2

section Slot

variable (c : Dev nD) (fK : Bf (F := F) c M1) (fV : Bf (F := F) c M2) (b : Fin 8) (l : Fin 2) (s : Fin 2) (n : ℕ)

/-- What the `2 n` transfers of a slot deliver: the even ones a block of the first tail buffer, the odd ones one of the second. -/
def DD : Fin (2 * n) → sProp 𝕄 := Ring.interleaved n (filled c D0 M1 fK b l s) (filled c D1 M2 fV b l s)

instance DD_storable (t : Fin (2 * n)) : BI.Storable (upEmb : UEmb _ 𝕄) (DD c fK fV b l s n t) := by
  unfold DD; infer_instance

theorem DD_split : (bigSep Finset.univ (DD c fK fV b l s n) : sProp 𝕄)
    = iprop(bigSep (Finset.range n) (filled c D0 M1 fK b l s) ∗ bigSep (Finset.range n) (filled c D1 M2 fV b l s)) := by
  unfold DD; exact Ring.bigSep_interleaved n _ _

/-- The blocks `lo …` of a slot of both buffers, at anything. -/
def rest (lo : ℕ) : sProp 𝕄 :=
  iprop(bigSep (Ring.rangeSet 8 lo 8) (fun k => blk c D0 s k.val) ∗ bigSep (Ring.rangeSet 8 lo 8) (fun k => blk c D1 s k.val))

/-- The caches readable. -/
def rds : sProp 𝕄 := iprop(rd c M1 fK ∗ rd c M2 fV)

/-- Before trip `k` of the issue loop. -/
def issueAt (k : ℕ) : sProp 𝕄 := iprop(rds c fK fV ∗ Bat c s (DD c fK fV b l s n) (2 * k) 0 ∗ rest c s k)

/-- A slot in flight: all its transfers started, none waited for. -/
def flying : sProp 𝕄 := iprop(Bat c s (DD c fK fV b l s n) (2 * n) 0 ∗ rest c s n)

/-- A slot idle. -/
def idle : sProp 𝕄 := iprop(semVal ((c : Thread nD τ), SemLoc.dma (cell s)) 0 ∗ rest c s 0)

/-- Block `k` of a slot whose first `n` blocks are filled. -/
def tblk (D : TailRef) (M : CacheRef) (fs : Bf (F := F) c M) (k : Fin 8) : sProp 𝕄 :=
  iprop(∃ g : Bf (F := F) c D, ⌜k.val < n → ∀ x ∈ tset s k.val, D.view.read (Elt F) g x = M.view.read (Elt F) fs (srcIx b l x)⌝
    ∗ D.view.loc (c : Thread nD τ) ↦[D.view.setOn (tset s k.val)]{fullShare} g)

/-- A slot landed: its first `n` blocks filled. -/
def landed : sProp 𝕄 :=
  iprop(bigSep Finset.univ (tblk c b l s n D0 M1 fK) ∗ bigSep Finset.univ (tblk c b l s n D1 M2 fV))

/-- Two transfers started: one trip of the issue loop. -/
theorem issue_pair {α : Type} {defs : Defs nD τ sig (Elt F) Λ₀} (hn : n ≤ 8) (k : Fin 8) (hk : k.val < n)
    {src src' : Memref sig .tc .hbm S8x128x128 .f32} {dst dst' : Memref sig .tc .vmem S8x128x128 .f32} {sm sm' : DmaSem sig}
    (es : src = sB M1 b l k) (ed : dst = tB D0 s k) (em : sm = cell s) (es' : src' = sB M2 b l k) (ed' : dst' = tB D1 s k) (em' : sm' = cell s)
    {hs : src.view.WordExact} {hd : dst.view.WordExact} {ht : (DmaTarget.here dst : DmaTarget nD τ sig .tc .vmem S8x128x128 .f32).Typed .hbm (.dma sm)}
    {hs' : src'.view.WordExact} {hd' : dst'.view.WordExact} {ht' : (DmaTarget.here dst' : DmaTarget nD τ sig .tc .vmem S8x128x128 .f32).Typed .hbm (.dma sm')}
    {kk : PUnit → Prog (TpuEff nD τ sig (Elt F) Λ₀ .tc) α} {Q : α → sProp 𝕄} :
    issueAt c fK fV b l s n k.val ⊢ iprop((issueAt c fK fV b l s n (k.val + 1) -∗ wp frame (wpE defs Variants.none c none) Set.univ (kk ⟨⟩) Q)
      -∗ wp frame (wpE defs Variants.none c none) Set.univ
        (.op (.enqueueDma src (.here dst) (.dma sm) hs hd ht) fun _ => .op (.enqueueDma src' (.here dst') (.dma sm') hs' hd' ht') kk) Q) := by
  unfold issueAt rest rds
  rw [Ring.bigSep_rangeSet_head (Φ := fun k => blk c D0 s k.val) k.isLt k.isLt, Ring.bigSep_rangeSet_head (Φ := fun k => blk c D1 s k.val) k.isLt k.isLt]
  iintro ⟨⟨Hr1, Hr2⟩, HB, ⟨H0, H0s⟩, ⟨H1, H1s⟩⟩ Hk
  iapply (wp_fill c D0 hN0 M1 fK s k b l es ed em (j := 2 * k.val) (by omega)
    (Entails.of_eq (Ring.interleaved_even n (filled c D0 M1 fK b l s) (filled c D1 M2 fV b l s) k.val (by omega)).symm)) $$ [Hr1 H0 HB]
  · isplitl [Hr1]; · iexact Hr1
    isplitl [H0]; · iexact H0
    iexact HB
  iintro ⟨Hr1, HB⟩
  iapply (wp_fill c D1 hN1 M2 fV s k b l es' ed' em' (j := 2 * k.val + 1) (by omega)
    (Entails.of_eq (Ring.interleaved_odd n (filled c D0 M1 fK b l s) (filled c D1 M2 fV b l s) k.val (by omega)).symm)) $$ [Hr2 H1 HB]
  · isplitl [Hr2]; · iexact Hr2
    isplitl [H1]; · iexact H1
    iexact HB
  iintro ⟨Hr2, HB⟩
  iapply Hk
  isplitl [Hr1 Hr2]
  · isplitl [Hr1] <;> iassumption
  isplitl [HB]
  · iexact HB
  isplitl [H0s] <;> iassumption

/-- Before trip `k` of the drain loop. -/
def drainAt (k : ℕ) : sProp 𝕄 := iprop(Bat c s (DD c fK fV b l s n) (2 * n) (2 * k * NN) ∗ ∃ W, owes (c : Thread nD τ) 0 W)

/-- Two waits: one trip of the drain loop. -/
theorem drain_pair {α : Type} {defs : Defs nD τ sig (Elt F) Λ₀} (k : Fin 8) (hk : k.val < n)
    {src src' : Memref sig .tc .hbm S8x128x128 .f32} {dst dst' : Memref sig .tc .vmem S8x128x128 .f32} {sm sm' : DmaSem sig}
    (ed : dst = tB D0 s k) (em : sm = cell s) (ed' : dst' = tB D1 s k) (em' : sm' = cell s)
    {hs : src.view.WordExact} {hd : dst.view.WordExact} {hs' : src'.view.WordExact} {hd' : dst'.view.WordExact}
    {kk : PUnit → Prog (TpuEff nD τ sig (Elt F) Λ₀ .tc) α} {Q : α → sProp 𝕄} :
    drainAt c fK fV b l s n k.val ⊢ iprop((drainAt c fK fV b l s n (k.val + 1) -∗ wp frame (wpE defs Variants.none c none) Set.univ (kk ⟨⟩) Q)
      -∗ wp frame (wpE defs Variants.none c none) Set.univ (.op (.waitDma2 sm src dst hs hd) fun _ => .op (.waitDma2 sm' src' dst' hs' hd') kk) Q) := by
  unfold drainAt
  have e1 : 2 * k.val * NN + NN + NN = 2 * (k.val + 1) * NN := by
    rw [show 2 * (k.val + 1) = 2 * k.val + 1 + 1 by omega, Nat.add_mul, Nat.add_mul, Nat.one_mul]
  have e2 : 2 * k.val * NN + NN + NN ≤ NN * (2 * n) := by
    rw [e1, Nat.mul_comm NN]; exact Nat.mul_le_mul_right _ (by omega)
  iintro H Hk
  iapply (wp_drain c D0 hN0 s k ed em (by omega)) $$ H
  iintro H
  iapply (wp_drain c D1 hN1 s k ed' em' e2) $$ H
  rw [e1]
  iintro H
  iapply Hk
  iexact H

/-- Every transfer waited for: the slot is landed and its semaphore at zero. -/
theorem drain_end (hn : n ≤ 8) : iprop(Bat c s (DD c fK fV b l s n) (2 * n) (2 * n * NN) ∗ rest c s n)
    ⊢ (|={Set.univ}=> iprop(semVal ((c : Thread nD τ), SemLoc.dma (cell s)) 0 ∗ landed c fK fV b l s n) : sProp 𝕄) := by
  rw [show 2 * n * NN = NN * (2 * n) from Nat.mul_comm _ _]
  iintro ⟨HB, Hr⟩
  imod (Transfers.batch_collect' (countersEmb (U := UU nD τ)) (c : Thread nD τ) NN_pos) $$ HB with ⟨HD, Hc⟩
  imodintro
  isplitl [Hc]; · iexact Hc
  ihave HD' := (Entails.of_eq (DD_split c fK fV b l s n)) $$ HD
  icases HD' with ⟨Ha, Hb⟩
  unfold landed rest
  icases Hr with ⟨Hra, Hrb⟩
  have key : ∀ (D : TailRef) (M : CacheRef) (fs : Bf (F := F) c M),
      iprop(bigSep (Finset.range n) (filled c D M fs b l s) ∗ bigSep (Ring.rangeSet 8 n 8) (fun k => blk c D s k.val)) ⊢ (bigSep Finset.univ (tblk c b l s n D M fs) : sProp 𝕄) := by
    intro D M fs
    rw [← Ring.rangeSet_univ, Ring.bigSep_rangeSet_split (Nat.zero_le n) hn]
    refine BIClass.sep_mono ?_ ?_
    · rw [show Finset.range n = Finset.range (n - 0) from rfl, ← Ring.bigSep_rangeSet_eq_range (NB := 8) (lo := 0) (hi := n) (Φ := fun k => filled c D M fs b l s k.val) hn (filled c D M fs b l s) (fun k h => by simp only [Nat.zero_add])]
      refine BI.bigSep_mono fun k _ => ?_
      show filled c D M fs b l s k.val ⊢ tblk c b l s n D M fs k
      unfold filled tblk
      iintro ⟨%g, %hg, H⟩
      iexists g
      isplitr
      · ipureintro; exact fun _ => hg
      · iexact H
    · refine BI.bigSep_mono fun k hk => ?_
      show blk c D s k.val ⊢ tblk c b l s n D M fs k
      unfold blk tblk
      iintro ⟨%g, H⟩
      iexists g
      isplitr
      · ipureintro; intro h; exact absurd h (by have := (Ring.mem_rangeSet _ _ _).1 hk; omega)
      · iexact H
  isplitl [Ha Hra]
  · iapply (key D0 M1 fK); isplitl [Ha] <;> iassumption
  · iapply (key D1 M2 fV); isplitl [Hb] <;> iassumption

/-- A landed slot is a slot at anything. -/
theorem landed_rest : landed c fK fV b l s n ⊢ (rest c s 0 : sProp 𝕄) := by
  unfold landed rest
  rw [Ring.rangeSet_univ]
  have key : ∀ (D : TailRef) (M : CacheRef) (fs : Bf (F := F) c M), (bigSep Finset.univ (tblk c b l s n D M fs) : sProp 𝕄) ⊢ bigSep Finset.univ (fun k : Fin 8 => blk c D s k.val) := by
    intro D M fs
    refine BI.bigSep_mono fun k _ => ?_
    show tblk c b l s n D M fs k ⊢ blk c D s k.val
    unfold blk tblk
    iintro ⟨%g, -, H⟩
    iexists g; iexact H
  exact BIClass.sep_mono (key D0 M1 fK) (key D1 M2 fV)

/-- A block out of its slot, and back. -/
theorem take_blk (Φ : Fin 8 → sProp 𝕄) (k : Fin 8) : (bigSep Finset.univ Φ : sProp 𝕄) ⊢ iprop(Φ k ∗ (Φ k -∗ bigSep Finset.univ Φ)) := by
  rw [← Ring.rangeSet_univ, Ring.bigSep_rangeSet_split (Nat.zero_le k.val) k.isLt.le, Ring.bigSep_rangeSet_head k.isLt k.isLt]
  iintro ⟨Ha, Hk, Hb⟩
  isplitl [Hk]; · iexact Hk
  iintro Hk
  isplitl [Ha]; · iexact Ha
  isplitl [Hk] <;> iassumption

/-- An idle slot made ready for `n` pairs of transfers. -/
theorem idle_start : iprop(rds c fK fV ∗ idle c s) ⊢ (|={Set.univ}=> issueAt c fK fV b l s n 0 : sProp 𝕄) := by
  unfold idle issueAt
  iintro ⟨Hr, Hc, Hb⟩
  imod (Transfers.batch_alloc' (Lvl := ℕ) (countersEmb (U := UU nD τ)) (c : Thread nD τ) () NN (DD c fK fV b l s n) (sm := .dma (cell s)) (E := Set.univ)) $$ Hc with HB
  imodintro
  isplitl [Hr]; · iexact Hr
  isplitl [HB]; · iexact HB
  iexact Hb

end Slot

end Cert.KernelIdeal.Gen

end
-- ==== Proof.ILoops.lean ====
/-
  The kernel's loops over its own buffers: the two that start a slot's transfers (at the first point, for its own slot;
  at every point but the last, for the next point's slot) and the one that waits for them; and the remainder loops, which
  make no trip.
-/
module

public import proofs.«01_k».proof.Proof.ISlots

@[expose] public section

noncomputable section

namespace Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F] [Named F]

local notation "𝕄" => MT nD τ sig Unit (Elt F) ℕ (UU nD τ) ℕ

/-- A counted loop whose invariant does not look at the word the loop carries. -/
theorem wp_loop {c : Dev nD} {α : Type} {defs : Defs nD τ sig (Elt F) Λ₀} (L : Scf.Loop 32) (hok : L.OK) (init : BitVec 32)
    (body : Fin L.trips → BitVec 32 → Prog (TpuEff nD τ sig (Elt F) Λ₀ .tc) (BitVec 32)) {n : ℕ} (htr : L.trips = n) (I : ℕ → sProp 𝕄)
    (hbody : ∀ (k : Fin L.trips) (acc : BitVec 32), I k.val ⊢ wp frame (wpE defs Variants.none c none) Set.univ (body k acc) (fun _ => I (k.val + 1)))
    {kk : BitVec 32 → Prog (TpuEff nD τ sig (Elt F) Λ₀ .tc) α} {Q : α → sProp 𝕄} :
    I 0 ⊢ iprop((∀ acc, I n -∗ wp frame (wpE defs Variants.none c none) Set.univ (kk acc) Q)
      -∗ wp frame (wpE defs Variants.none c none) Set.univ (Scf.Loop.for L hok init body >>= kk) Q) := by
  subst htr
  exact Scf.wp_for_bind frame (wpE defs Variants.none c none) Set.univ L.lb L.ub L.st hok init body (fun k _ => I k) hbody

section Trip
variable (c : Dev nD) (fK : Bf (F := F) c M1) (fV : Bf (F := F) c M2) (b : Fin 8) (l s : Fin 2) (n : ℕ)

/-- A whole trip of an issue loop. -/
theorem issue_trip {defs : Defs nD τ sig (Elt F) Λ₀} (hn : n ≤ 8) (k : Fin 8) (hk : k.val < n) (a : BitVec 32)
    {src src' : Memref sig .tc .hbm S8x128x128 .f32} {dst dst' : Memref sig .tc .vmem S8x128x128 .f32} {sm sm' : DmaSem sig}
    (es : src = sB M1 b l k) (ed : dst = tB D0 s k) (em : sm = cell s) (es' : src' = sB M2 b l k) (ed' : dst' = tB D1 s k) (em' : sm' = cell s)
    {hs : src.view.WordExact} {hd : dst.view.WordExact} {ht : (DmaTarget.here dst : DmaTarget nD τ sig .tc .vmem S8x128x128 .f32).Typed .hbm (.dma sm)}
    {hs' : src'.view.WordExact} {hd' : dst'.view.WordExact} {ht' : (DmaTarget.here dst' : DmaTarget nD τ sig .tc .vmem S8x128x128 .f32).Typed .hbm (.dma sm')} :
    issueAt c fK fV b l s n k.val ⊢ (wp frame (wpE defs Variants.none c none) Set.univ
        (.op (.enqueueDma src (.here dst) (.dma sm) hs hd ht) fun _ => .op (.enqueueDma src' (.here dst') (.dma sm') hs' hd' ht') fun _ => .ret a)
        (fun _ => issueAt c fK fV b l s n (k.val + 1)) : sProp 𝕄) := by
  iintro H
  iapply (issue_pair c fK fV b l s n hn k hk es ed em es' ed' em') $$ H
  iintro H
  rw [wp_ret]
  imodintro
  iexact H

/-- A whole trip of the drain loop. -/
theorem drain_trip {defs : Defs nD τ sig (Elt F) Λ₀} (k : Fin 8) (hk : k.val < n) (a : BitVec 32)
    {src src' : Memref sig .tc .hbm S8x128x128 .f32} {dst dst' : Memref sig .tc .vmem S8x128x128 .f32} {sm sm' : DmaSem sig}
    (ed : dst = tB D0 s k) (em : sm = cell s) (ed' : dst' = tB D1 s k) (em' : sm' = cell s)
    {hs : src.view.WordExact} {hd : dst.view.WordExact} {hs' : src'.view.WordExact} {hd' : dst'.view.WordExact} :
    drainAt c fK fV b l s n k.val ⊢ (wp frame (wpE defs Variants.none c none) Set.univ
        (.op (.waitDma2 sm src dst hs hd) fun _ => .op (.waitDma2 sm' src' dst' hs' hd') fun _ => .ret a)
        (fun _ => drainAt c fK fV b l s n (k.val + 1)) : sProp 𝕄) := by
  iintro H
  iapply (drain_pair c fK fV b l s n k hk ed em ed' em') $$ H
  iintro H
  rw [wp_ret]
  imodintro
  iexact H
end Trip

variable (c : Dev nD) (fK : Bf (F := F) c M1) (fV : Bf (F := F) c M2) (i : grid0.Coords)
  (A3 : Memref sig .tc .vmem S1x8x4x128 .f32) (hA3 : A3.IsWhole) (A4 : Memref sig .tc .vmem S1x1x8x1024x128 .f32) (hA4 : A4.IsWhole)
  (A5 : Memref sig .tc .vmem S1x1x8x1024x128 .f32) (hA5 : A5.IsWhole) (A8 : Memref sig .tc .vmem S1x8x4x128 .f32) (hA8 : A8.IsWhole)
  {α : Type} {defs : Defs nD τ sig (Elt F) Λ₀}

/-- The layer of the point numbered `p`, which is its slot too. -/
def pl (p : ℕ) : Fin 2 := ⟨p % 2, Nat.mod_lt _ (by decide)⟩

theorem wp_t1 (h1 : k0_cond1 i = 1#1) (w : Elt F .i32) (hw1 : k0_chk1 i w) (hw : InR w) (init : BitVec 32) {kk : BitVec 32 → Prog (TpuEff nD τ sig (Elt F) Λ₀ .tc) α} {Q : α → sProp 𝕄} :
    issueAt c fK fV 0 0 0 (nc w) 0 ⊢ iprop((∀ acc, issueAt c fK fV 0 0 0 (nc w) (nc w) -∗ wp frame (wpE defs Variants.none c none) Set.univ (kk acc) Q)
      -∗ wp frame (wpE defs Variants.none c none) Set.univ (Scf.Loop.for (k0_t1_loop w) (k0_t1_ok i w hw1 h1) init (k0_t1_body i (Memref.whole main_arg3) (Memref.isWhole_whole _) A3 hA3 A4 hA4 A5 hA5 (Memref.whole main_arg1) (Memref.isWhole_whole _) (Memref.whole main_arg2) (Memref.isWhole_whole _) A8 hA8 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 h1 w hw1) >>= kk) Q) := by
  refine wp_loop (k0_t1_loop w) (k0_t1_ok i w hw1 h1) init (k0_t1_body i (Memref.whole main_arg3) (Memref.isWhole_whole _) A3 hA3 A4 hA4 A5 hA5 (Memref.whole main_arg1) (Memref.isWhole_whole _) (Memref.whole main_arg2) (Memref.isWhole_whole _) A8 hA8 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 h1 w hw1) (trips1 hw) (fun k => issueAt c fK fV 0 0 0 (nc w) k) ?_
  intro k acc
  have hk : k.val < nc w := lt_of_lt_of_eq k.isLt (trips1 hw)
  exact issue_trip (defs := defs) c fK fV 0 0 0 (nc w) (nc_le hw) ⟨k.val, lt_of_lt_of_le hk (nc_le hw)⟩ hk 0#32
    (sB_of M1 (k0_off4_inb i w hw1 k h1) 0 0 ⟨k.val, lt_of_lt_of_le hk (nc_le hw)⟩ (off4_eq hw k))
    (tB_of D0 (k0_off3_inb i w hw1 k h1) 0 ⟨k.val, lt_of_lt_of_le hk (nc_le hw)⟩ (off3_eq hw k))
    (cell_of inb_S2_S1_0 0 rfl)
    (sB_of M2 (k0_off4_inb i w hw1 k h1) 0 0 ⟨k.val, lt_of_lt_of_le hk (nc_le hw)⟩ (off4_eq hw k))
    (tB_of D1 (k0_off3_inb i w hw1 k h1) 0 ⟨k.val, lt_of_lt_of_le hk (nc_le hw)⟩ (off3_eq hw k))
    (cell_of inb_S2_S1_0 0 rfl)

theorem wp_t2 (h : k0_cond1 i = 1#1) (w : Elt F .i32) (hc : k0_chk1 i w) (hw : InR w) (init : BitVec 32) {kk : BitVec 32 → Prog (TpuEff nD τ sig (Elt F) Λ₀ .tc) α} {Q : α → sProp 𝕄} {P : sProp 𝕄}
    (hk : P ⊢ wp frame (wpE defs Variants.none c none) Set.univ (kk init) Q) :
    P ⊢ wp frame (wpE defs Variants.none c none) Set.univ (Scf.Loop.for (k0_t2_loop w) (k0_t2_ok i w hc h) init (k0_t2_body i (Memref.whole main_arg3) (Memref.isWhole_whole _) A3 hA3 A4 hA4 A5 hA5 (Memref.whole main_arg1) (Memref.isWhole_whole _) (Memref.whole main_arg2) (Memref.isWhole_whole _) A8 hA8 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 h w hc) >>= kk) Q :=
  Scf.wp_for0_bind' frame (wpE defs Variants.none c none) Set.univ _ _ _ _ init _ (trips2 hw) kk Q P hk

theorem wp_t3 (h2 : k0_cond2 i = 1#1) (w : Elt F .i32) (hw2 : k0_chk2 i w) (hw : InR w) (init : BitVec 32) {kk : BitVec 32 → Prog (TpuEff nD τ sig (Elt F) Λ₀ .tc) α} {Q : α → sProp 𝕄}
    (b : Fin 8) (l : Fin 2) (hb : b.val = (pr i + 1) / 2) (hl : l.val = (pr i + 1) % 2) :
    issueAt c fK fV b l l (nc w) 0 ⊢ iprop((∀ acc, issueAt c fK fV b l l (nc w) (nc w) -∗ wp frame (wpE defs Variants.none c none) Set.univ (kk acc) Q)
      -∗ wp frame (wpE defs Variants.none c none) Set.univ (Scf.Loop.for (k0_t3_loop w) (k0_t3_ok i w hw2 h2) init (k0_t3_body i (Memref.whole main_arg3) (Memref.isWhole_whole _) A3 hA3 A4 hA4 A5 hA5 (Memref.whole main_arg1) (Memref.isWhole_whole _) (Memref.whole main_arg2) (Memref.isWhole_whole _) A8 hA8 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 h2 w hw2) >>= kk) Q) := by
  refine wp_loop (k0_t3_loop w) (k0_t3_ok i w hw2 h2) init (k0_t3_body i (Memref.whole main_arg3) (Memref.isWhole_whole _) A3 hA3 A4 hA4 A5 hA5 (Memref.whole main_arg1) (Memref.isWhole_whole _) (Memref.whole main_arg2) (Memref.isWhole_whole _) A8 hA8 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 h2 w hw2) (trips3 hw) (fun k => issueAt c fK fV b l l (nc w) k) ?_
  intro k acc
  have hk : k.val < nc w := lt_of_lt_of_eq k.isLt (trips3 hw)
  exact issue_trip (defs := defs) c fK fV b l l (nc w) (nc_le hw) ⟨k.val, lt_of_lt_of_le hk (nc_le hw)⟩ hk 0#32
    (sB_of M1 (k0_off10_inb i w hw2 k h2) b l ⟨k.val, lt_of_lt_of_le hk (nc_le hw)⟩ (by rw [hb, hl]; exact off10_eq hw i k))
    (tB_of D0 (k0_off9_inb i w hw2 k h2) l ⟨k.val, lt_of_lt_of_le hk (nc_le hw)⟩ (by rw [hl]; exact off9_eq hw i k))
    (cell_of (k0_off8_inb i h2) l (by rw [hl]; exact off8_eq i))
    (sB_of M2 (k0_off10_inb i w hw2 k h2) b l ⟨k.val, lt_of_lt_of_le hk (nc_le hw)⟩ (by rw [hb, hl]; exact off10_eq hw i k))
    (tB_of D1 (k0_off9_inb i w hw2 k h2) l ⟨k.val, lt_of_lt_of_le hk (nc_le hw)⟩ (by rw [hl]; exact off9_eq hw i k))
    (cell_of (k0_off8_inb i h2) l (by rw [hl]; exact off8_eq i))

theorem wp_t4 (h : k0_cond2 i = 1#1) (w : Elt F .i32) (hc : k0_chk2 i w) (hw : InR w) (init : BitVec 32) {kk : BitVec 32 → Prog (TpuEff nD τ sig (Elt F) Λ₀ .tc) α} {Q : α → sProp 𝕄} {P : sProp 𝕄}
    (hk : P ⊢ wp frame (wpE defs Variants.none c none) Set.univ (kk init) Q) :
    P ⊢ wp frame (wpE defs Variants.none c none) Set.univ (Scf.Loop.for (k0_t4_loop w) (k0_t4_ok i w hc h) init (k0_t4_body i (Memref.whole main_arg3) (Memref.isWhole_whole _) A3 hA3 A4 hA4 A5 hA5 (Memref.whole main_arg1) (Memref.isWhole_whole _) (Memref.whole main_arg2) (Memref.isWhole_whole _) A8 hA8 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 h w hc) >>= kk) Q :=
  Scf.wp_for0_bind' frame (wpE defs Variants.none c none) Set.univ _ _ _ _ init _ (trips4 hw) kk Q P hk

theorem wp_t5 (v1 : BitVec 32) (v19 : FVec F S8x1024x128 .f32) (v25 : FVec F S8x4x1024 .f32) (v27 : FVec F S8x4x1 .f32) (v28 : FVec F S8x4x1024 .f32) (w : Elt F .i32) (hw3 : k0_chk3 i w) (hw : InR w) (init : BitVec 32) {kk : BitVec 32 → Prog (TpuEff nD τ sig (Elt F) Λ₀ .tc) α} {Q : α → sProp 𝕄}
    (b : Fin 8) (l : Fin 2) (hl : l.val = pr i % 2) :
    drainAt c fK fV b l l (nc w) 0 ⊢ iprop((∀ acc, drainAt c fK fV b l l (nc w) (nc w) -∗ wp frame (wpE defs Variants.none c none) Set.univ (kk acc) Q)
      -∗ wp frame (wpE defs Variants.none c none) Set.univ (Scf.Loop.for (k0_t5_loop w) (k0_t5_ok i w hw3) init (k0_t5_body i (Memref.whole main_arg3) (Memref.isWhole_whole _) A3 hA3 A4 hA4 A5 hA5 (Memref.whole main_arg1) (Memref.isWhole_whole _) (Memref.whole main_arg2) (Memref.isWhole_whole _) A8 hA8 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 v1 v19 v25 v27 v28 w hw3) >>= kk) Q) := by
  refine wp_loop (k0_t5_loop w) (k0_t5_ok i w hw3) init (k0_t5_body i (Memref.whole main_arg3) (Memref.isWhole_whole _) A3 hA3 A4 hA4 A5 hA5 (Memref.whole main_arg1) (Memref.isWhole_whole _) (Memref.whole main_arg2) (Memref.isWhole_whole _) A8 hA8 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 v1 v19 v25 v27 v28 w hw3) (trips5 hw) (fun k => drainAt c fK fV b l l (nc w) k) ?_
  intro k acc
  have hk : k.val < nc w := lt_of_lt_of_eq k.isLt (trips5 hw)
  exact drain_trip (defs := defs) c fK fV b l l (nc w) ⟨k.val, lt_of_lt_of_le hk (nc_le hw)⟩ hk 0#32
    (tB_of D0 (k0_off16_inb i w hw3 k) l ⟨k.val, lt_of_lt_of_le hk (nc_le hw)⟩ (by rw [hl]; exact off16_eq hw i k))
    (cell_of (k0_off15_inb i) l (by rw [hl]; exact off15_eq i))
    (tB_of D1 (k0_off16_inb i w hw3 k) l ⟨k.val, lt_of_lt_of_le hk (nc_le hw)⟩ (by rw [hl]; exact off16_eq hw i k))
    (cell_of (k0_off15_inb i) l (by rw [hl]; exact off15_eq i))

theorem wp_t6 (v1 : BitVec 32) (v19 : FVec F S8x1024x128 .f32) (v25 : FVec F S8x4x1024 .f32) (v27 : FVec F S8x4x1 .f32) (v28 : FVec F S8x4x1024 .f32) (w : Elt F .i32) (hw3 : k0_chk3 i w) (hw : InR w) (init : BitVec 32) {kk : BitVec 32 → Prog (TpuEff nD τ sig (Elt F) Λ₀ .tc) α} {Q : α → sProp 𝕄} {P : sProp 𝕄}
    (hk : P ⊢ wp frame (wpE defs Variants.none c none) Set.univ (kk init) Q) :
    P ⊢ wp frame (wpE defs Variants.none c none) Set.univ (Scf.Loop.for (k0_t6_loop w) (k0_t6_ok i w hw3) init (k0_t6_body i (Memref.whole main_arg3) (Memref.isWhole_whole _) A3 hA3 A4 hA4 A5 hA5 (Memref.whole main_arg1) (Memref.isWhole_whole _) (Memref.whole main_arg2) (Memref.isWhole_whole _) A8 hA8 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 v1 v19 v25 v27 v28 w hw3) >>= kk) Q :=
  Scf.wp_for0_bind' frame (wpE defs Variants.none c none) Set.univ _ _ _ _ init _ (trips6 hw) kk Q P hk

theorem wp_t8 (v2 : BitVec 32) (w : Elt F .i32) (hw4 : k0_chk4 i w) (v15 : Vec F S8x4x128 .f32) (v70 : BitVec 32) (hw : InR w) (init : BitVec 32) {kk : BitVec 32 → Prog (TpuEff nD τ sig (Elt F) Λ₀ .tc) α} {Q : α → sProp 𝕄} {P : sProp 𝕄}
    (hk : P ⊢ wp frame (wpE defs Variants.none c none) Set.univ (kk init) Q) :
    P ⊢ wp frame (wpE defs Variants.none c none) Set.univ (Scf.Loop.for (k0_t8_loop w) (k0_t8_ok i w hw4) init (k0_t8_body i (Memref.whole main_arg3) (Memref.isWhole_whole _) A3 hA3 A4 hA4 A5 hA5 (Memref.whole main_arg1) (Memref.isWhole_whole _) (Memref.whole main_arg2) (Memref.isWhole_whole _) A8 hA8 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 v2 w hw4 v15 v70) >>= kk) Q :=
  Scf.wp_for0_bind' frame (wpE defs Variants.none c none) Set.univ _ _ _ _ init _ (trips8 hw) kk Q P hk

end Cert.KernelIdeal.Gen

end
-- ==== Proof.IComp.lean ====
/-
  The loop that goes through a landed slot: per block of 128 positions it loads the keys and the values, and updates
  the running maximum, the running sum and the accumulator.
-/
module

public import proofs.«01_k».proof.Proof.ILoops
public import Idealize.ShloMosaic.Lib.VecWindow

@[expose] public section

noncomputable section

namespace Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F] [Named F]

local notation "𝕄" => MT nD τ sig Unit (Elt F) ℕ (UU nD τ) ℕ

/-- A buffer held whole, reading as `v`. -/
def holds (c : Dev nD) {sp : Space} {s : Shape} {e : EltTy} (M : Memref sig .tc sp s e) (v : s.Idx → Elt F e) : sProp 𝕄 :=
  iprop(∃ f : Bf (F := F) c M, ⌜M.view.read (Elt F) f = v⌝ ∗ pt c M f)

/-- The block of 128 positions number `k` of a batch's and layer's cache behind position 1024. -/
def chunk (c : Dev nD) (M : CacheRef) (fs : Bf (F := F) c M) (b : Fin 8) (l : Fin 2) (k : Fin 8) : Vec F S1x8x128x128 .f32 :=
  fun j => M.view.read (Elt F) fs (ix5 b l (j 1) (⟨1024 + 128 * k.val + (j 2).val, by have h : (j 2).val < 128 := (j 2).isLt; omega⟩ : Fin 2048) (j 3))

/-- What one block makes of the running maximum, sum and accumulator. -/
def step (w : Elt F .i32) (q : Vec F S8x4x128 .f32) (k : Fin (k0_t7_loop w).trips) (kc vc : Vec F S1x8x128x128 .f32)
    (st : Vec F S8x4x128 .f32 × Vec F S8x4x128 .f32 × Vec F S8x4x128 .f32) : Vec F S8x4x128 .f32 × Vec F S8x4x128 .f32 × Vec F S8x4x128 .f32 :=
  (k0_pay3 (k0_pay12 w q 0#32 1#32 k kc st.1), k0_pay1 (k0_pay15 w q 0#32 1#32 k kc st.1 st.2.1),
    k0_pay2 (k0_pay10 vc) (k0_pay13 w q 0#32 1#32 k kc st.1) (k0_pay14 w q 0#32 1#32 k kc st.1) st.2.2)

/-- The running values before block `k`. -/
def iter (w : Elt F .i32) (q : Vec F S8x4x128 .f32) (kc vc : Fin 8 → Vec F S1x8x128x128 .f32)
    (st : Vec F S8x4x128 .f32 × Vec F S8x4x128 .f32 × Vec F S8x4x128 .f32) : ℕ → Vec F S8x4x128 .f32 × Vec F S8x4x128 .f32 × Vec F S8x4x128 .f32
  | 0 => st
  | k + 1 => if h : k < (k0_t7_loop w).trips ∧ k < 8 then step w q ⟨k, h.1⟩ (kc ⟨k, h.2⟩) (vc ⟨k, h.2⟩) (iter w q kc vc st k) else iter w q kc vc st k

/-- The three running buffers. -/
def run3 (c : Dev nD) (st : Vec F S8x4x128 .f32 × Vec F S8x4x128 .f32 × Vec F S8x4x128 .f32) : sProp 𝕄 :=
  iprop(holds c (Memref.whole cc0_scratch3) st.1 ∗ holds c (Memref.whole cc0_scratch4) st.2.1 ∗ holds c (Memref.whole cc0_scratch5) st.2.2)

variable (c : Dev nD) (fK : Bf (F := F) c M1) (fV : Bf (F := F) c M2) (i : grid0.Coords)
  (A3 : Memref sig .tc .vmem S1x8x4x128 .f32) (hA3 : A3.IsWhole) (A4 : Memref sig .tc .vmem S1x1x8x1024x128 .f32) (hA4 : A4.IsWhole)
  (A5 : Memref sig .tc .vmem S1x1x8x1024x128 .f32) (hA5 : A5.IsWhole) (A8 : Memref sig .tc .vmem S1x8x4x128 .f32) (hA8 : A8.IsWhole)
  {α : Type} {defs : Defs nD τ sig (Elt F) Λ₀}

/-- The library's bind is the monad's. -/
theorem bind_fold.{u} {E : Type → Type u} {α β : Type} (p : Prog E α) (k : α → Prog E β) : Prog.bind p k = (p >>= k) := rfl

theorem trip_t7 (v2 : BitVec 32) (w : Elt F .i32) (hw4 : k0_chk4 i w) (q : Vec F S8x4x128 .f32) (k : Fin (k0_t7_loop w).trips) (acc : BitVec 32)
    (g0 : Bf (F := F) c (Memref.whole cc0_scratch0)) (g1 : Bf (F := F) c (Memref.whole cc0_scratch1)) (f3 : Bf (F := F) c (Memref.whole cc0_scratch3)) (f4 : Bf (F := F) c (Memref.whole cc0_scratch4)) (f5 : Bf (F := F) c (Memref.whole cc0_scratch5)) :
    iprop(((Memref.whole cc0_scratch0).view.loc (c : Thread nD τ) ↦[(Memref.whole cc0_scratch0).view.setOn (Rect.unit (s := S2x8x1024x128) (k0_off21 i w k) S1x8x128x128.size (k0_off21_inb i w hw4 k)).set]{fullShare} g0) ∗ ((Memref.whole cc0_scratch1).view.loc (c : Thread nD τ) ↦[(Memref.whole cc0_scratch1).view.setOn (Rect.unit (s := S2x8x1024x128) (k0_off21 i w k) S1x8x128x128.size (k0_off21_inb i w hw4 k)).set]{fullShare} g1)
      ∗ pt c (Memref.whole cc0_scratch3) f3 ∗ pt c (Memref.whole cc0_scratch4) f4 ∗ pt c (Memref.whole cc0_scratch5) f5)
    ⊢ (wp frame (wpE defs Variants.none c none) Set.univ (k0_t7_body i (Memref.whole main_arg3) (Memref.isWhole_whole _) A3 hA3 A4 hA4 A5 hA5 (Memref.whole main_arg1) (Memref.isWhole_whole _) (Memref.whole main_arg2) (Memref.isWhole_whole _) A8 hA8 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 v2 w hw4 q k acc) (fun _ => iprop(
      ((Memref.whole cc0_scratch0).view.loc (c : Thread nD τ) ↦[(Memref.whole cc0_scratch0).view.setOn (Rect.unit (s := S2x8x1024x128) (k0_off21 i w k) S1x8x128x128.size (k0_off21_inb i w hw4 k)).set]{fullShare} g0) ∗ ((Memref.whole cc0_scratch1).view.loc (c : Thread nD τ) ↦[(Memref.whole cc0_scratch1).view.setOn (Rect.unit (s := S2x8x1024x128) (k0_off21 i w k) S1x8x128x128.size (k0_off21_inb i w hw4 k)).set]{fullShare} g1)
      ∗ run3 c (step w q k ((Memref.whole cc0_scratch0).view.readAt (Elt F) (Rect.unit (s := S2x8x1024x128) (k0_off21 i w k) S1x8x128x128.size (k0_off21_inb i w hw4 k)).toLoadRect g0) ((Memref.whole cc0_scratch1).view.readAt (Elt F) (Rect.unit (s := S2x8x1024x128) (k0_off21 i w k) S1x8x128x128.size (k0_off21_inb i w hw4 k)).toLoadRect g1) (((Memref.whole cc0_scratch3).view.readAt (Elt F) (Rect.unit (s := S8x4x128) ![0, 0, 0] S8x4x128.size inb_S8x4x128_S8x4x128_0_0_0).toLoadRect f3), ((Memref.whole cc0_scratch4).view.readAt (Elt F) (Rect.unit (s := S8x4x128) ![0, 0, 0] S8x4x128.size inb_S8x4x128_S8x4x128_0_0_0).toLoadRect f4), ((Memref.whole cc0_scratch5).view.readAt (Elt F) (Rect.unit (s := S8x4x128) ![0, 0, 0] S8x4x128.size inb_S8x4x128_S8x4x128_0_0_0).toLoadRect f5))))) : sProp 𝕄) := by
  unfold k0_t7_body
  rw [k0_part1_eq_skeleton]
  unfold k0_part1_skel
  refine exec_load Variants.none (c : Thread nD τ) none Set.univ (m := Memref.whole cc0_scratch0)
    (r := (Rect.unit (s := S2x8x1024x128) (k0_off21 i w k) S1x8x128x128.size (k0_off21_inb i w hw4 k)).toLoadRect) (f := g0) (q := fullShare)
    (sep_comm) (Finset.Subset.refl _) _ rfl ?_
  refine exec_load Variants.none (c : Thread nD τ) none Set.univ (m := Memref.whole cc0_scratch1)
    (r := (Rect.unit (s := S2x8x1024x128) (k0_off21 i w k) S1x8x128x128.size (k0_off21_inb i w hw4 k)).toLoadRect) (f := g1) (q := fullShare)
    (R := iprop(((Memref.whole cc0_scratch0).view.loc (c : Thread nD τ) ↦[(Memref.whole cc0_scratch0).view.setOn (Rect.unit (s := S2x8x1024x128) (k0_off21 i w k) S1x8x128x128.size (k0_off21_inb i w hw4 k)).set]{fullShare} g0) ∗ pt c (Memref.whole cc0_scratch3) f3 ∗ pt c (Memref.whole cc0_scratch4) f4 ∗ pt c (Memref.whole cc0_scratch5) f5))
    ⟨by iintro ⟨H0, H1, H3, H4, H5⟩; iframe, by iintro ⟨⟨H0, H3, H4, H5⟩, H1⟩; iframe⟩ (Finset.Subset.refl _) _ rfl ?_
  beta_reduce
  simp only [bind_fold, Prog.bind_ret]
  iintro ⟨H0, H1, H3, H4, H5⟩
  sl_exec
  sl_step
  isplitl [H0]; · iexact H0
  isplitl [H1]; · iexact H1
  unfold run3 holds
  isplitl [H3]
  · iexists _
    isplitr [H3]
    rotate_left
    · iexact H3
    · ipureintro
      exact View.read_writes_full _ _ _ _ _
  isplitl [H4]
  · iexists _
    isplitr [H4]
    rotate_left
    · iexact H4
    · ipureintro
      exact View.read_writes_full _ _ _ _ _
  · iexists _
    isplitr [H5]
    rotate_left
    · iexact H5
    · ipureintro
      exact View.read_writes_full _ _ _ _ _

/-- A landed block, loaded, is the cache's block. -/
theorem chunk_eq (D : TailRef) (M : CacheRef) (fs : Bf (F := F) c M) (b : Fin 8) (l s : Fin 2) (k : Fin 8) {off : Fin 4 → ℕ}
    (inb : ∀ a, off a + S1x8x128x128.size a ≤ S2x8x1024x128.size a) (e : off = ![s.val, 0, 128 * k.val, 0]) (g : Bf (F := F) c D)
    (h : ∀ x ∈ tset s k.val, D.view.read (Elt F) g x = M.view.read (Elt F) fs (srcIx b l x)) :
    D.view.readAt (Elt F) (Rect.unit (s := S2x8x1024x128) off S1x8x128x128.size inb).toLoadRect g = chunk c M fs b l k := by
  subst e
  funext j
  have h2 : (j 2).val < 128 := (j 2).isLt
  refine (h _ ?_).trans (congrArg (M.view.read (Elt F) fs) ?_)
  · rw [tset_eq]; exact LoadRect.idx_mem _ j
  · unfold srcIx
    funext a; apply Fin.ext
    fin_cases a
    · rfl
    · rfl
    · show 0 + 1 * (j 1).val = (j 1).val; omega
    · show 1024 + (128 * k.val + 1 * (j 2).val) = 1024 + 128 * k.val + (j 2).val; omega
    · show 0 + 1 * (j 3).val = (j 3).val; omega

theorem tset_rect (s : Fin 2) (k : Fin 8) {off : Fin 4 → ℕ} (inb : ∀ a, off a + S1x8x128x128.size a ≤ S2x8x1024x128.size a)
    (e : off = ![s.val, 0, 128 * k.val, 0]) : tset s k.val = (Rect.unit (s := S2x8x1024x128) off S1x8x128x128.size inb).set := by
  subst e; exact tset_eq s k

/-- The loop over the blocks of a landed slot: the running values become their last iterate. -/
theorem wp_t7 (v2 : BitVec 32) (w : Elt F .i32) (hw4 : k0_chk4 i w) (q : Vec F S8x4x128 .f32) (hw : InR w) (init : BitVec 32)
    {kk : BitVec 32 → Prog (TpuEff nD τ sig (Elt F) Λ₀ .tc) α} {Q : α → sProp 𝕄}
    (b : Fin 8) (l : Fin 2) (hl : l.val = pr i % 2) (st : Vec F S8x4x128 .f32 × Vec F S8x4x128 .f32 × Vec F S8x4x128 .f32) :
    iprop(landed c fK fV b l l (nc w) ∗ run3 c st) ⊢ iprop((∀ acc, iprop(landed c fK fV b l l (nc w) ∗ run3 c (iter w q (chunk c M1 fK b l) (chunk c M2 fV b l) st (nc w)))
        -∗ wp frame (wpE defs Variants.none c none) Set.univ (kk acc) Q)
      -∗ wp frame (wpE defs Variants.none c none) Set.univ (Scf.Loop.for (k0_t7_loop w) (k0_t7_ok i w hw4) init (k0_t7_body i (Memref.whole main_arg3) (Memref.isWhole_whole _) A3 hA3 A4 hA4 A5 hA5 (Memref.whole main_arg1) (Memref.isWhole_whole _) (Memref.whole main_arg2) (Memref.isWhole_whole _) A8 hA8 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 v2 w hw4 q) >>= kk) Q) := by
  refine wp_loop (k0_t7_loop w) (k0_t7_ok i w hw4) init (k0_t7_body i (Memref.whole main_arg3) (Memref.isWhole_whole _) A3 hA3 A4 hA4 A5 hA5 (Memref.whole main_arg1) (Memref.isWhole_whole _) (Memref.whole main_arg2) (Memref.isWhole_whole _) A8 hA8 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 v2 w hw4 q) (trips7 hw)
    (fun k => iprop(landed c fK fV b l l (nc w) ∗ run3 c (iter w q (chunk c M1 fK b l) (chunk c M2 fV b l) st k))) ?_
  intro k acc
  have hk : k.val < nc w := lt_of_lt_of_eq k.isLt (trips7 hw)
  have hk8 : k.val < 8 := lt_of_lt_of_le hk (nc_le hw)
  have e21 : k0_off21 i w k = ![l.val, 0, 128 * k.val, 0] := by rw [hl]; exact off21_eq hw i k
  have eset := tset_rect l ⟨k.val, hk8⟩ (k0_off21_inb i w hw4 k) e21
  show iprop(landed c fK fV b l l (nc w) ∗ run3 c (iter w q (chunk c M1 fK b l) (chunk c M2 fV b l) st k.val)) ⊢ _
  have eit : iter w q (chunk c M1 fK b l) (chunk c M2 fV b l) st (k.val + 1)
      = step w q k (chunk c M1 fK b l ⟨k.val, hk8⟩) (chunk c M2 fV b l ⟨k.val, hk8⟩) (iter w q (chunk c M1 fK b l) (chunk c M2 fV b l) st k.val) := by
    rw [iter, dif_pos ⟨k.isLt, hk8⟩]
  rw [eit]
  generalize iter w q (chunk c M1 fK b l) (chunk c M2 fV b l) st k.val = st'
  obtain ⟨m', l', a'⟩ := st'
  unfold landed
  iintro ⟨⟨HA, HB⟩, HR⟩
  ihave HA' := (take_blk _ (⟨k.val, hk8⟩ : Fin 8)) $$ HA
  icases HA' with ⟨HA1, HA2⟩
  ihave HB' := (take_blk _ (⟨k.val, hk8⟩ : Fin 8)) $$ HB
  icases HB' with ⟨HB1, HB2⟩
  unfold tblk run3 holds
  icases HA1 with ⟨%g0, %h0, HA1⟩
  icases HB1 with ⟨%g1, %h1, HB1⟩
  icases HR with ⟨⟨%f3, %e3, H3⟩, ⟨%f4, %e4, H4⟩, ⟨%f5, %e5, H5⟩⟩
  have c0 := chunk_eq c D0 M1 fK b l l ⟨k.val, hk8⟩ (k0_off21_inb i w hw4 k) e21 g0 (h0 hk)
  have c1 := chunk_eq c D1 M2 fV b l l ⟨k.val, hk8⟩ (k0_off21_inb i w hw4 k) e21 g1 (h1 hk)
  have d3 : (Memref.whole cc0_scratch3).view.readAt (Elt F) (Rect.unit (s := S8x4x128) ![0, 0, 0] S8x4x128.size inb_S8x4x128_S8x4x128_0_0_0).toLoadRect f3 = m' :=
    (View.readAt_full _ _ _).trans e3
  have d4 : (Memref.whole cc0_scratch4).view.readAt (Elt F) (Rect.unit (s := S8x4x128) ![0, 0, 0] S8x4x128.size inb_S8x4x128_S8x4x128_0_0_0).toLoadRect f4 = l' :=
    (View.readAt_full _ _ _).trans e4
  have d5 : (Memref.whole cc0_scratch5).view.readAt (Elt F) (Rect.unit (s := S8x4x128) ![0, 0, 0] S8x4x128.size inb_S8x4x128_S8x4x128_0_0_0).toLoadRect f5 = a' :=
    (View.readAt_full _ _ _).trans e5
  have ht := trip_t7 (defs := defs) c i A3 hA3 A4 hA4 A5 hA5 A8 hA8 v2 w hw4 q k acc g0 g1 f3 f4 f5
  rw [c0, c1, d3, d4, d5, ← eset] at ht
  iapply (wp_wand_r _ _ _ (Q := fun _ => iprop((D0.view.loc (c : Thread nD τ) ↦[D0.view.setOn (tset l k.val)]{fullShare} g0) ∗ (D1.view.loc (c : Thread nD τ) ↦[D1.view.setOn (tset l k.val)]{fullShare} g1)
      ∗ run3 c (step w q k (chunk c M1 fK b l ⟨k.val, hk8⟩) (chunk c M2 fV b l ⟨k.val, hk8⟩) (m', l', a')))))
  isplitl [HA1 HB1 H3 H4 H5]
  · iapply ht
    isplitl [HA1]; · iexact HA1
    isplitl [HB1]; · iexact HB1
    isplitl [H3]; · iexact H3
    isplitl [H4]; · iexact H4
    iexact H5
  iintro %_ ⟨HA1, HB1, HR⟩
  isplitl [HA1 HA2 HB1 HB2]
  · isplitl [HA1 HA2]
    · iapply HA2
      iexists g0
      isplitr
      · ipureintro; exact h0
      iexact HA1
    · iapply HB2
      iexists g1
      isplitr
      · ipureintro; exact h1
      iexact HB1
  unfold run3 holds
  iexact HR

end Cert.KernelIdeal.Gen

end
-- ==== Proof.IBody.lean ====
/-
  The kernel's body at one point of the grid.
-/
module

public import proofs.«01_k».proof.Proof.IComp
public import Idealize.ShloMosaic.Lib.VecWindow

@[expose] public section

noncomputable section

namespace Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F] [Named F]

local notation "𝕄" => MT nD τ sig Unit (Elt F) ℕ (UU nD τ) ℕ

/-- The table's word of batch `b`. -/
def wd (c : Dev nD) (tb : Bf (F := F) c (Memref.whole main_arg3)) (b : Fin 8) : BitVec 32 :=
  (Memref.whole main_arg3).view.read (Elt F) tb (ix1 b)

theorem wd_of (c : Dev nD) (tb : Bf (F := F) c (Memref.whole main_arg3)) (b : Fin 8) {off : Fin 1 → ℕ} (inb : ∀ a, off a + S1.size a ≤ S8.size a)
    (e : off = ![b.val]) (x : S1.Idx) : (Memref.whole main_arg3).view.readAt (Elt F) (Rect.unit (s := S8) off S1.size inb).toLoadRect tb x = wd c tb b := by
  subst e
  refine congrArg ((Memref.whole main_arg3).view.read (Elt F) tb) ?_
  funext a; apply Fin.ext
  fin_cases a
  have : (x 0).val < 1 := (x 0).isLt
  show b.val + 1 * (x 0).val = b.val
  omega

variable (c : Dev nD) (fK : Bf (F := F) c M1) (fV : Bf (F := F) c M2) (i : grid0.Coords)
  (A3 : Memref sig .tc .vmem S1x8x4x128 .f32) (hA3 : A3.IsWhole) (A4 : Memref sig .tc .vmem S1x1x8x1024x128 .f32) (hA4 : A4.IsWhole)
  (A5 : Memref sig .tc .vmem S1x1x8x1024x128 .f32) (hA5 : A5.IsWhole) (A8 : Memref sig .tc .vmem S1x8x4x128 .f32) (hA8 : A8.IsWhole)
  {defs : Defs nD τ sig (Elt F) Λ₀}

/-- A load of the table's word. -/
theorem wp_word {α : Type} (tb : Bf (F := F) c (Memref.whole main_arg3)) (qt : PosShare TreeShare) (b : Fin 8) {off : Fin 1 → ℕ} {inb : ∀ a, off a + S1.size a ≤ S8.size a}
    (e : off = ![b.val]) {h1 : (Rect.unit (s := S8) off S1.size inb).shape.numel = 1} {hp : EltTy.i32.packing = 1}
    {kk : BitVec 32 → Prog (TpuEff nD τ sig (Elt F) Λ₀ .tc) α} {Q : α → sProp 𝕄} :
    ((Memref.whole main_arg3).view.loc (c : Thread nD τ) ↦{qt} tb) ⊢ iprop((((Memref.whole main_arg3).view.loc (c : Thread nD τ) ↦{qt} tb)
        -∗ wp frame (wpE defs Variants.none c none) Set.univ (kk (wd c tb b)) Q)
      -∗ wp frame (wpE defs Variants.none c none) Set.univ (smemLoad (Memref.whole main_arg3) (Rect.unit (s := S8) off S1.size inb) h1 hp >>= kk) Q) := by
  rw [← wd_of c tb b inb e (Shape.Idx.first (h1.symm ▸ Nat.one_pos))]
  exact wp_load (defs := defs) Variants.none (c : Thread nD τ) none Set.univ (Q := Q) (m := Memref.whole main_arg3) (r := (Rect.unit (s := S8) off S1.size inb).toLoadRect)
    (hl := View.loadsAt_rect (View.loads_smem_one hp h1)) (k := fun f => kk (f (Shape.Idx.first (h1.symm ▸ Nat.one_pos)))) (q := qt) (f := tb) (S := Finset.univ) (Finset.subset_univ _)

/-- The batch of pair `p`. -/
def pbf (p : ℕ) : Fin 8 := ⟨p / 2 % 8, Nat.mod_lt _ (by decide)⟩

theorem pbf_val {p : ℕ} (h : p < 16) : (pbf p).val = p / 2 := Nat.mod_eq_of_lt (by omega)
theorem pl_val (p : ℕ) : (pl p).val = p % 2 := rfl
theorem pl_add_two (p : ℕ) : pl (p + 1 + 1) = pl p := Fin.ext (by rw [pl_val, pl_val]; omega)

/-- Pair `p`'s slot in flight. -/
def fly (T : Fin 8 → BitVec 32) (p : ℕ) : sProp 𝕄 := flying c fK fV (pbf p) (pl p) (pl p) (nc (T (pbf p)))

/-- Before the point of pair `p`, once its own transfers are started: they are in flight, the other slot idle. -/
def mid1 (T : Fin 8 → BitVec 32) (p : ℕ) : sProp 𝕄 := iprop(fly c fK fV T p ∗ idle c (pl (p + 1)))
/-- The two slots before the point of pair `p`. -/
def slots (T : Fin 8 → BitVec 32) (p : ℕ) : sProp 𝕄 :=
  if 0 < p ∧ p < 16 then mid1 c fK fV T p else iprop(idle c 0 ∗ idle c 1)
/-- The next pair's slot, once its transfers are started. -/
def next (T : Fin 8 → BitVec 32) (p : ℕ) : sProp 𝕄 := if p + 1 < 16 then fly c fK fV T (p + 1) else idle c (pl (p + 1))

theorem slots_next (T : Fin 8 → BitVec 32) (p : ℕ) (hp : p < 16) : iprop(idle c (pl p) ∗ next c fK fV T p) ⊢ (slots c fK fV T (p + 1) : sProp 𝕄) := by
  unfold slots next
  by_cases h : p + 1 < 16
  · rw [if_pos h, if_pos ⟨Nat.succ_pos _, h⟩]
    unfold mid1
    rw [pl_add_two]
    exact sep_symm
  · rw [if_neg h, if_neg fun h' => h h'.2]
    obtain rfl : p = 15 := by omega
    exact sep_symm

/-- The core's record of what it waits for. -/
def ow : sProp 𝕄 := iprop(∃ W, owes (c : Thread nD τ) 0 W)

/-- An issue loop takes an idle slot to one in flight. -/
theorem issue_loop {α : Type} (b : Fin 8) (l : Fin 2) (n : ℕ) {prog : Prog (TpuEff nD τ sig (Elt F) Λ₀ .tc) α} {Q : α → sProp 𝕄} {W : BitVec 32 → sProp 𝕄}
    (h : issueAt c fK fV b l l n 0 ⊢ iprop((∀ acc, issueAt c fK fV b l l n n -∗ W acc) -∗ wp frame (wpE defs Variants.none c none) Set.univ prog Q)) :
    iprop(rds c fK fV ∗ idle c l) ⊢ iprop((∀ acc, (rds c fK fV ∗ flying c fK fV b l l n) -∗ W acc) -∗ wp frame (wpE defs Variants.none c none) Set.univ prog Q) := by
  iintro HI Hk
  ihave HI' := (idle_start c fK fV b l l n) $$ HI
  imod HI' with HI
  iapply h $$ HI
  iexact Hk

/-- The drain loop takes a slot in flight to one landed. -/
theorem drain_loop {α : Type} (b : Fin 8) (l : Fin 2) (n : ℕ) (hn : n ≤ 8) {prog : Prog (TpuEff nD τ sig (Elt F) Λ₀ .tc) α} {Q : α → sProp 𝕄} {W : BitVec 32 → sProp 𝕄}
    (h : drainAt c fK fV b l l n 0 ⊢ iprop((∀ acc, drainAt c fK fV b l l n n -∗ W acc) -∗ wp frame (wpE defs Variants.none c none) Set.univ prog Q)) :
    iprop(flying c fK fV b l l n ∗ ow c) ⊢ iprop((∀ acc, (ow c ∗ |={Set.univ}=> (semVal ((c : Thread nD τ), SemLoc.dma (cell l)) 0 ∗ landed c fK fV b l l n)) -∗ W acc)
      -∗ wp frame (wpE defs Variants.none c none) Set.univ prog Q) := by
  unfold drainAt at h
  unfold flying ow
  rw [Nat.mul_zero, Nat.zero_mul] at h
  iintro ⟨⟨HB, Hr⟩, HO⟩ Hk
  iapply h $$ [HB HO]
  · isplitl [HB]; · iexact HB
    iexact HO
  iintro %acc ⟨HB, HO⟩
  ihave HD := (drain_end c fK fV b l l n hn) $$ [HB Hr]
  · isplitl [HB] <;> iassumption
  iapply Hk
  isplitl [HO]; · iexact HO
  iexact HD

/-- A conditional of which both branches go on to the same program. -/
theorem wp_cond {α : Type} {p : Prop} {d : Decidable p} {T : p → Prog (TpuEff nD τ sig (Elt F) Λ₀ .tc) α} {E : Prog (TpuEff nD τ sig (Elt F) Λ₀ .tc) α}
    {P R : sProp 𝕄} {Q : α → sProp 𝕄} (hJ : R ⊢ wp frame (wpE defs Variants.none c none) Set.univ E Q) (hE : ¬ p → P ⊢ R)
    (hT : ∀ h : p, (R ⊢ wp frame (wpE defs Variants.none c none) Set.univ E Q) → P ⊢ wp frame (wpE defs Variants.none c none) Set.univ (T h) Q) :
    P ⊢ wp frame (wpE defs Variants.none c none) Set.univ (dite p T (fun _ => E)) Q := by
  by_cases h : p
  · rw [dif_pos h]; exact hT h hJ
  · rw [dif_neg h]; exact (hE h).trans hJ

end Cert.KernelIdeal.Gen

end
-- ==== Proof.IPart.lean ====
/-
  The first two stretches of the kernel's body at one point of the grid.
-/
module

public import proofs.«01_k».proof.Proof.IBody

@[expose] public section

noncomputable section

namespace Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F] [Named F]

local notation "𝕄" => MT nD τ sig Unit (Elt F) ℕ (UU nD τ) ℕ

variable (c : Dev nD) (fK : Bf (F := F) c M1) (fV : Bf (F := F) c M2) (i : grid0.Coords)
  (A3 : Memref sig .tc .vmem S1x8x4x128 .f32) (hA3 : A3.IsWhole) (A4 : Memref sig .tc .vmem S1x1x8x1024x128 .f32) (hA4 : A4.IsWhole)
  (A5 : Memref sig .tc .vmem S1x1x8x1024x128 .f32) (hA5 : A5.IsWhole) (A8 : Memref sig .tc .vmem S1x8x4x128 .f32) (hA8 : A8.IsWhole)
  {defs : Defs nD τ sig (Elt F) Λ₀} (tb : Bf (F := F) c (Memref.whole main_arg3)) (qt : PosShare TreeShare)

/-- The table of context lengths, at share `qt`. -/
def tab : sProp 𝕄 := ((Memref.whole main_arg3).view.loc (c : Thread nD τ) ↦{qt} tb)

theorem pbf_pr : pbf (pr i) = i 0 := Fin.ext (by
  have h0 : (i 0).val < 8 := (i 0).isLt
  have h1 : (i 1).val < 2 := (i 1).isLt
  show (2 * (i 0).val + (i 1).val) / 2 % 8 = (i 0).val
  omega)

/-- An assumption that holds is passed. -/
theorem wp_chk {α : Type} {p : Prop} {d : Decidable p} (h : p) {kk : PLift p → Prog (TpuEff nD τ sig (Elt F) Λ₀ .tc) α} {P : sProp 𝕄} {Q : α → sProp 𝕄}
    (hk : P ⊢ wp frame (wpE defs Variants.none c none) Set.univ (kk ⟨h⟩) Q) :
    P ⊢ wp frame (wpE defs Variants.none c none) Set.univ (Prog.lift (TpuEff.assume p d) >>= kk) Q :=
  hk.trans (wp_assume Variants.none (c : Thread nD τ) none Set.univ h)

set_option maxHeartbeats 2000000 in
/-- The first stretch: the first pair's transfers at the first point, the next pair's, and the query. -/
theorem part3_run (hT : ∀ b, InR (wd c tb b)) (f3 : Bf (F := F) c A3) (f4 : Bf (F := F) c A4) (f5 : Bf (F := F) c A5) (q : Vec F S8x4x128 .f32)
    (hq : (i 1).val = 0 → q = k0_pay22 (A3.view.read (Elt F) f3))
    {Q : (Σ' (_ : BitVec 32) (_ : BitVec 32) (_ : BitVec 32) (v4 : Elt F .i32) (_ : k0_chk4 i v4) (_ : Vec F S8x4x128 .f32) (_ : FVec F S8x1024x128 .f32) (_ : FVec F S8x4x1024 .f32) (_ : FVec F S8x4x1 .f32), FVec F S8x4x1024 .f32) → sProp 𝕄} :
    iprop(tab c tb qt ∗ rds c fK fV ∗ slots c fK fV (wd c tb) (pr i) ∗ pt c A3 f3 ∗ pt c A4 f4 ∗ pt c A5 f5
        ∗ (∃ f : Bf (F := F) c (Memref.whole cc0_scratch2), ⌜(i 1).val = 1 → (Memref.whole cc0_scratch2).view.read (Elt F) f = q⌝ ∗ pt c (Memref.whole cc0_scratch2) f)
        ∗ ((tab c tb qt ∗ rds c fK fV ∗ (fly c fK fV (wd c tb) (pr i) ∗ next c fK fV (wd c tb) (pr i)) ∗ pt c A3 f3 ∗ pt c A4 f4 ∗ pt c A5 f5 ∗ holds c (Memref.whole cc0_scratch2) q)
          -∗ Q ⟨BitVec.ofNat 32 (i 1).val, Scalar.addi (Scalar.muli (BitVec.ofNat 32 (i 0).val) 2#32) (BitVec.ofNat 32 (i 1).val),
              Scalar.remsi (Scalar.addi (Scalar.muli (BitVec.ofNat 32 (i 0).val) 2#32) (BitVec.ofNat 32 (i 1).val)) 2#32, wd c tb (i 0), chk4 (hT _) i, q,
              k0_pay23 (A5.view.read (Elt F) f5), k0_pay24 (wd c tb (i 0)) q (A4.view.read (Elt F) f4), k0_pay25 (wd c tb (i 0)) q (A4.view.read (Elt F) f4), k0_pay26 (wd c tb (i 0)) q (A4.view.read (Elt F) f4)⟩))
      ⊢ wp frame (wpE defs Variants.none c none) Set.univ (k0_part3 (F := F) i (Memref.whole main_arg3) (Memref.isWhole_whole _) A3 hA3 A4 hA4 A5 hA5 (Memref.whole main_arg1) (Memref.isWhole_whole _) (Memref.whole main_arg2) (Memref.isWhole_whole _) A8 hA8 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6) Q := by
  rw [k0_part3_eq_skeleton]
  unfold k0_part3_skel
  have hp := pr_lt i
  iintro ⟨HT, Hr, Hs, H⟩
  have hc4 : k0_chk4 i (wd c tb (i 0)) := chk4 (hT _) i
  unfold tab
  iapply (wp_word c tb qt (i 0) (off1_eq i)) $$ HT
  iintro HT
  icombine Hs H as H
  icombine Hr H as H
  icombine HT H as H
  istop
  refine wp_chk c hc4 ?_
  refine wp_cond c (R := iprop(tab c tb qt ∗ rds c fK fV ∗ mid1 c fK fV (wd c tb) (pr i) ∗ (pt c A3 f3 ∗ pt c A4 f4 ∗ pt c A5 f5 ∗ (∃ f : Bf (F := F) c (Memref.whole cc0_scratch2), ⌜(i 1).val = 1 → (Memref.whole cc0_scratch2).view.read (Elt F) f = q⌝ ∗ pt c (Memref.whole cc0_scratch2) f) ∗ ((tab c tb qt ∗ rds c fK fV ∗ (fly c fK fV (wd c tb) (pr i) ∗ next c fK fV (wd c tb) (pr i)) ∗ pt c A3 f3 ∗ pt c A4 f4 ∗ pt c A5 f5 ∗ holds c (Memref.whole cc0_scratch2) q) -∗ Q ⟨BitVec.ofNat 32 (i 1).val, Scalar.addi (Scalar.muli (BitVec.ofNat 32 (i 0).val) 2#32) (BitVec.ofNat 32 (i 1).val), Scalar.remsi (Scalar.addi (Scalar.muli (BitVec.ofNat 32 (i 0).val) 2#32) (BitVec.ofNat 32 (i 1).val)) 2#32, wd c tb (i 0), chk4 (hT _) i, q, k0_pay23 (A5.view.read (Elt F) f5), k0_pay24 (wd c tb (i 0)) q (A4.view.read (Elt F) f4), k0_pay25 (wd c tb (i 0)) q (A4.view.read (Elt F) f4), k0_pay26 (wd c tb (i 0)) q (A4.view.read (Elt F) f4)⟩)))) ?_ ?_ ?_
  · unfold tab
    iintro ⟨HT, Hr, Hs, H⟩
    icombine Hs H as H
    icombine Hr H as H
    icombine HT H as H
    istop
    refine wp_cond c (R := iprop(tab c tb qt ∗ rds c fK fV ∗ (fly c fK fV (wd c tb) (pr i) ∗ next c fK fV (wd c tb) (pr i)) ∗ (pt c A3 f3 ∗ pt c A4 f4 ∗ pt c A5 f5 ∗ (∃ f : Bf (F := F) c (Memref.whole cc0_scratch2), ⌜(i 1).val = 1 → (Memref.whole cc0_scratch2).view.read (Elt F) f = q⌝ ∗ pt c (Memref.whole cc0_scratch2) f) ∗ ((tab c tb qt ∗ rds c fK fV ∗ (fly c fK fV (wd c tb) (pr i) ∗ next c fK fV (wd c tb) (pr i)) ∗ pt c A3 f3 ∗ pt c A4 f4 ∗ pt c A5 f5 ∗ holds c (Memref.whole cc0_scratch2) q) -∗ Q ⟨BitVec.ofNat 32 (i 1).val, Scalar.addi (Scalar.muli (BitVec.ofNat 32 (i 0).val) 2#32) (BitVec.ofNat 32 (i 1).val), Scalar.remsi (Scalar.addi (Scalar.muli (BitVec.ofNat 32 (i 0).val) 2#32) (BitVec.ofNat 32 (i 1).val)) 2#32, wd c tb (i 0), chk4 (hT _) i, q, k0_pay23 (A5.view.read (Elt F) f5), k0_pay24 (wd c tb (i 0)) q (A4.view.read (Elt F) f4), k0_pay25 (wd c tb (i 0)) q (A4.view.read (Elt F) f4), k0_pay26 (wd c tb (i 0)) q (A4.view.read (Elt F) f4)⟩)))) ?_ ?_ ?_
    · iintro ⟨HT, Hr, Hs, H3, H4, H5, ⟨%f2, %hf2, H2⟩, HK⟩
      icombine HK H2 as H
      icombine H5 H as H
      icombine H4 H as H
      icombine H3 H as H
      icombine Hs H as H
      icombine Hr H as H
      icombine HT H as H
      istop
      refine wp_cond c (R := iprop(tab c tb qt ∗ rds c fK fV ∗ (fly c fK fV (wd c tb) (pr i) ∗ next c fK fV (wd c tb) (pr i)) ∗ pt c A3 f3 ∗ pt c A4 f4 ∗ pt c A5 f5 ∗ ((tab c tb qt ∗ rds c fK fV ∗ (fly c fK fV (wd c tb) (pr i) ∗ next c fK fV (wd c tb) (pr i)) ∗ pt c A3 f3 ∗ pt c A4 f4 ∗ pt c A5 f5 ∗ holds c (Memref.whole cc0_scratch2) q) -∗ Q ⟨BitVec.ofNat 32 (i 1).val, Scalar.addi (Scalar.muli (BitVec.ofNat 32 (i 0).val) 2#32) (BitVec.ofNat 32 (i 1).val), Scalar.remsi (Scalar.addi (Scalar.muli (BitVec.ofNat 32 (i 0).val) 2#32) (BitVec.ofNat 32 (i 1).val)) 2#32, wd c tb (i 0), chk4 (hT _) i, q, k0_pay23 (A5.view.read (Elt F) f5), k0_pay24 (wd c tb (i 0)) q (A4.view.read (Elt F) f4), k0_pay25 (wd c tb (i 0)) q (A4.view.read (Elt F) f4), k0_pay26 (wd c tb (i 0)) q (A4.view.read (Elt F) f4)⟩) ∗ holds c (Memref.whole cc0_scratch2) q)) ?_ ?_ ?_
      · unfold holds
        iintro ⟨HT, Hr, Hs, H3, H4, H5, HK, ⟨%f, %hf, H2⟩⟩
        sl_exec
        rw [show View.readAt (Elt F) (Memref.whole cc0_scratch2).view (Rect.unit ![0, 0, 0] S8x4x128.size inb_S8x4x128_S8x4x128_0_0_0).toLoadRect f = q from (View.readAt_full _ _ _).trans hf]
        sl_step
        rw [show View.readAt (Elt F) A4.view (Rect.unit ![0, 0, 0, 0, 0] S1x1x8x1024x128.size inb_S1x1x8x1024x128_S1x1x8x1024x128_0_0_0_0_0).toLoadRect f4 = A4.view.read (Elt F) f4 from View.readAt_full _ _ _, show View.readAt (Elt F) A5.view (Rect.unit ![0, 0, 0, 0, 0] S1x1x8x1024x128.size inb_S1x1x8x1024x128_S1x1x8x1024x128_0_0_0_0_0).toLoadRect f5 = A5.view.read (Elt F) f5 from View.readAt_full _ _ _]
        iapply HK
        isplitl [HT]; · iexact HT
        isplitl [Hr]; · iexact Hr
        isplitl [Hs]; · iexact Hs
        isplitl [H3]; · iexact H3
        isplitl [H4]; · iexact H4
        isplitl [H5]; · iexact H5
        iexists _
        isplitr [H2]; rotate_left
        · iexact H2
        ipureintro
        exact hf
      · intro hn
        have h1 : (i 1).val = 1 := by
          have := (i 1).isLt
          have h0 : ¬ (i 1).val = 0 := fun h => hn ((w_l0 (i 1)).mpr h)
          have h2 : (i 1).val < 2 := (i 1).isLt
          omega
        unfold holds
        iintro ⟨HT, Hr, Hs, H3, H4, H5, HK, H2⟩
        isplitl [HT]; · iexact HT
        isplitl [Hr]; · iexact Hr
        isplitl [Hs]; · iexact Hs
        isplitl [H3]; · iexact H3
        isplitl [H4]; · iexact H4
        isplitl [H5]; · iexact H5
        isplitl [HK]; · iexact HK
        iexists f2
        isplitr [H2]; · ipureintro; exact hf2 h1
        iexact H2
      · intro h hJ
        have h0 : (i 1).val = 0 := (w_l0 (i 1)).mp h
        iintro ⟨HT, Hr, Hs, H3, H4, H5, HK, H2⟩
        sl_exec
        rw [show part3_run.sl.v15 c A3 f3 = q from by unfold part3_run.sl.v15 part3_run.sl.H2_1; refine (View.readCov_full _ _ _ _ _).trans ?_; rw [hq h0]; exact congrArg (k0_pay22 (F := F)) (show View.readAt (Elt F) A3.view (Rect.unit ![0, 0, 0, 0] S1x8x4x128.size inb_S1x8x4x128_S1x8x4x128_0_0_0_0).toLoadRect f3 = A3.view.read (Elt F) f3 from View.readAt_full _ _ _)]
        sl_step
        rw [show View.readAt (Elt F) A4.view (Rect.unit ![0, 0, 0, 0, 0] S1x1x8x1024x128.size inb_S1x1x8x1024x128_S1x1x8x1024x128_0_0_0_0_0).toLoadRect f4 = A4.view.read (Elt F) f4 from View.readAt_full _ _ _, show View.readAt (Elt F) A5.view (Rect.unit ![0, 0, 0, 0, 0] S1x1x8x1024x128.size inb_S1x1x8x1024x128_S1x1x8x1024x128_0_0_0_0_0).toLoadRect f5 = A5.view.read (Elt F) f5 from View.readAt_full _ _ _]
        iapply HK
        unfold holds
        isplitl [HT]; · iexact HT
        isplitl [Hr]; · iexact Hr
        isplitl [Hs]; · iexact Hs
        isplitl [H3]; · iexact H3
        isplitl [H4]; · iexact H4
        isplitl [H5]; · iexact H5
        iexists _
        isplitr [H2]; rotate_left
        · iexact H2
        ipureintro
        exact (View.read_writes_full _ _ _ _ _).trans ((congrArg (k0_pay22 (F := F)) (show View.readAt (Elt F) A3.view (Rect.unit ![0, 0, 0, 0] S1x8x4x128.size inb_S1x8x4x128_S1x8x4x128_0_0_0_0).toLoadRect f3 = A3.view.read (Elt F) f3 from View.readAt_full _ _ _)).trans (hq h0).symm)
    · intro hn
      unfold mid1 next
      rw [if_neg (fun h => hn ((cond2_iff i).mpr h))]
      exact .rfl
    · intro h2 hJ
      unfold mid1
      iintro ⟨HT, Hr, ⟨Hf, Hi⟩, H⟩
      iapply (wp_word c tb qt (pbf (pr i + 1)) (by rw [pbf_val ((cond2_iff i).mp h2)]; exact off7_eq i)) $$ HT
      iintro HT
      icombine HT H as H
      icombine Hf H as H
      icombine Hi H as H
      icombine Hr H as H
      istop
      refine wp_chk c (chk2 (hT _) i) ?_
      iintro ⟨Hr, Hi, Hf, HT, H⟩
      iapply (issue_loop c fK fV (pbf (pr i + 1)) (pl (pr i + 1)) (nc (wd c tb (pbf (pr i + 1))))
        (wp_t3 c fK fV i A3 hA3 A4 hA4 A5 hA5 A8 hA8 h2 (wd c tb (pbf (pr i + 1))) (chk2 (hT _) i) (hT _) 0#32 (pbf (pr i + 1)) (pl (pr i + 1)) (pbf_val ((cond2_iff i).mp h2)) rfl)) $$ [Hr Hi]
      · isplitl [Hr] <;> iassumption
      iintro %acc ⟨Hr, Hn⟩
      icombine Hn H as H
      icombine Hf H as H
      icombine Hr H as H
      icombine HT H as H
      istop
      refine wp_t4 c i A3 hA3 A4 hA4 A5 hA5 A8 hA8 h2 (wd c tb (pbf (pr i + 1))) (chk2 (hT _) i) (hT _) acc (.trans ?_ hJ)
      unfold tab next
      rw [if_pos ((cond2_iff i).mp h2)]
      iintro ⟨HT, Hr, Hf, Hn, H⟩
      isplitl [HT]; · iexact HT
      isplitl [Hr]; · iexact Hr
      isplitl [Hf Hn]
      · isplitl [Hf]; · iexact Hf
        unfold fly
        iexact Hn
      iexact H
  · intro hn
    unfold slots
    rw [if_pos ⟨Nat.pos_of_ne_zero fun h => hn ((cond1_iff i).mpr h), hp⟩]
    exact .rfl
  · intro h1 hJ
    have hp0 : pr i = 0 := (cond1_iff i).mp h1
    unfold slots
    rw [if_neg (fun h => absurd hp0 (Nat.pos_iff_ne_zero.mp h.1))]
    iintro ⟨HT, Hr, ⟨Hi, Hi'⟩, H⟩
    iapply (wp_word c tb qt 0 off2_eq) $$ HT
    iintro HT
    icombine HT H as H
    icombine Hi' H as H
    icombine Hi H as H
    icombine Hr H as H
    istop
    refine wp_chk c (chk1 (hT _) i) ?_
    iintro ⟨Hr, Hi, Hi', HT, H⟩
    iapply (issue_loop c fK fV 0 0 (nc (wd c tb 0))
      (wp_t1 c fK fV i A3 hA3 A4 hA4 A5 hA5 A8 hA8 h1 (wd c tb 0) (chk1 (hT _) i) (hT _) 0#32)) $$ [Hr Hi]
    · isplitl [Hr] <;> iassumption
    iintro %acc ⟨Hr, Hn⟩
    icombine Hn H as H
    icombine Hi' H as H
    icombine Hr H as H
    icombine HT H as H
    istop
    refine wp_t2 c i A3 hA3 A4 hA4 A5 hA5 A8 hA8 h1 (wd c tb 0) (chk1 (hT _) i) (hT _) acc (.trans ?_ hJ)
    unfold tab mid1 fly
    rw [hp0]
    iintro ⟨HT, Hr, Hi, Hn, H⟩
    isplitl [HT]; · iexact HT
    isplitl [Hr]; · iexact Hr
    isplitl [Hn Hi]
    · isplitl [Hn]; · iexact Hn
      iexact Hi
    iexact H

/-- The three running values after the first stretch of keys. -/
def first3 (w : BitVec 32) (q : Vec F S8x4x128 .f32) (kv vv : Vec F S1x1x8x1024x128 .f32) : Vec F S8x4x128 .f32 × Vec F S8x4x128 .f32 × Vec F S8x4x128 .f32 :=
  (k0_pay28 (k0_pay25 w q kv), k0_pay29 (k0_pay24 w q kv) (k0_pay26 w q kv), k0_pay30 (k0_pay23 vv) (k0_pay24 w q kv) (k0_pay26 w q kv))

/-- Three scratch buffers holding anything. -/
def any3 : sProp 𝕄 := iprop((∃ f, pt c (Memref.whole cc0_scratch3) f) ∗ (∃ f, pt c (Memref.whole cc0_scratch4) f) ∗ (∃ f, pt c (Memref.whole cc0_scratch5) f))

/-- A load of the table's word, at the head of any program. -/
theorem word_op (b : Fin 8) {off : Fin 1 → ℕ} {inb : ∀ a, off a + S1.size a ≤ S8.size a}
    (e : off = ![b.val]) {h1 : (Rect.unit (s := S8) off S1.size inb).shape.numel = 1} {hp : EltTy.i32.packing = 1}
    {Q : Elt F .i32 → sProp 𝕄} {P : sProp 𝕄} (hk : iprop(tab c tb qt ∗ P) ⊢ Q (wd c tb b)) :
    iprop(tab c tb qt ∗ P) ⊢ wp frame (wpE defs Variants.none c none) Set.univ (smemLoad (Memref.whole main_arg3) (Rect.unit (s := S8) off S1.size inb) h1 hp) Q := by
  refine .trans ?_ (BIBase.Entails.of_eq (show wp frame (wpE defs Variants.none c none) Set.univ (smemLoad (Memref.whole main_arg3) (Rect.unit (s := S8) off S1.size inb) h1 hp >>= fun w => Prog.ret w) Q = _ from congrArg (fun p => wp frame (wpE defs Variants.none c none) Set.univ p Q) (show _ = _ from rfl)))
  unfold tab at hk ⊢
  iintro ⟨HT, H⟩
  iapply (wp_word c tb qt b e) $$ HT
  iintro HT
  sl_step
  iapply hk
  isplitl [HT] <;> iassumption

theorem pbf_off14 : k0_off14 i = ![(pbf (pr i)).val] := by rw [pbf_val (pr_lt i)]; exact off14_eq i

/-- The second stretch: the running values of the first keys, and the wait for the pair's transfers. -/
theorem part4_run (hT : ∀ b, InR (wd c tb b)) (v1 : BitVec 32) (v19 : FVec F S8x1024x128 .f32) (v25 : FVec F S8x4x1024 .f32) (v27 : FVec F S8x4x1 .f32) (v28 : FVec F S8x4x1024 .f32)
    {Q : BitVec 32 → sProp 𝕄} :
    iprop(tab c tb qt ∗ fly c fK fV (wd c tb) (pr i) ∗ ow c ∗ any3 c
        ∗ ((tab c tb qt ∗ ow c ∗ (semVal ((c : Thread nD τ), SemLoc.dma (cell (pl (pr i)))) 0 ∗ landed c fK fV (pbf (pr i)) (pl (pr i)) (pl (pr i)) (nc (wd c tb (pbf (pr i)))))
            ∗ run3 c (k0_pay28 v27, k0_pay29 v25 v28, k0_pay30 v19 v25 v28)) -∗ Q 1024#32))
      ⊢ wp frame (wpE defs Variants.none c none) Set.univ (k0_part4 (F := F) i (Memref.whole main_arg3) (Memref.isWhole_whole _) A3 hA3 A4 hA4 A5 hA5 (Memref.whole main_arg1) (Memref.isWhole_whole _) (Memref.whole main_arg2) (Memref.isWhole_whole _) A8 hA8 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 v1 v19 v25 v27 v28) Q := by
  rw [k0_part4_eq_skeleton]
  unfold k0_part4_skel
  have hc3 : k0_chk3 i (wd c tb (pbf (pr i))) := chk3 (hT _) i
  unfold any3
  iintro ⟨HT, Hf, HO, ⟨⟨%f3, H3⟩, ⟨%f4, H4⟩, ⟨%f5, H5⟩⟩, HK⟩
  sl_exec
  icombine H3 H4 H5 HK as H
  icombine HO H as H
  icombine Hf H as H
  icombine HT H as H
  istop
  refine word_op c tb qt (pbf (pr i)) (pbf_off14 i) (h1 := numel1_S1) (hp := rfl) ?_
  refine wp_chk c hc3 ?_
  unfold fly
  iintro ⟨HT, Hf, HO, H3, H4, H5, HK⟩
  iapply (drain_loop c fK fV (pbf (pr i)) (pl (pr i)) (nc (wd c tb (pbf (pr i)))) (nc_le (hT _))
    (wp_t5 c fK fV i A3 hA3 A4 hA4 A5 hA5 A8 hA8 v1 v19 v25 v27 v28 (wd c tb (pbf (pr i))) hc3 (hT _) 0#32 (pbf (pr i)) (pl (pr i)) rfl)) $$ [Hf HO]
  · isplitl [Hf] <;> iassumption
  iintro %acc ⟨HO, HD⟩
  icombine HT HO HD H3 H4 H5 HK as H
  istop
  refine wp_t6 c i A3 hA3 A4 hA4 A5 hA5 A8 hA8 v1 v19 v25 v27 v28 (wd c tb (pbf (pr i))) hc3 (hT _) acc ?_
  iintro ⟨HT, HO, HD, H3, H4, H5, HK⟩
  imod HD with HD
  sl_step
  iapply HK
  isplitl [HT]; · iexact HT
  isplitl [HO]; · iexact HO
  isplitl [HD]; · iexact HD
  unfold run3 holds
  isplitl [H3]
  · iexists _
    isplitr [H3]; rotate_left
    · iexact H3
    ipureintro; exact View.read_writes_full _ _ _ _ _
  isplitl [H4]
  · iexists _
    isplitr [H4]; rotate_left
    · iexact H4
    ipureintro; exact View.read_writes_full _ _ _ _ _
  · iexists _
    isplitr [H5]; rotate_left
    · iexact H5
    ipureintro; exact View.read_writes_full _ _ _ _ _

end Cert.KernelIdeal.Gen

end
-- ==== Proof.IRoot.lean ====
/-
  The kernel's whole body at one point of the grid.
-/
module

public import proofs.«01_k».proof.Proof.IPart

@[expose] public section

noncomputable section

namespace Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F] [Named F]

local notation "𝕄" => MT nD τ sig Unit (Elt F) ℕ (UU nD τ) ℕ

variable (c : Dev nD) (fK : Bf (F := F) c M1) (fV : Bf (F := F) c M2) (i : grid0.Coords)
  (A3 : Memref sig .tc .vmem S1x8x4x128 .f32) (hA3 : A3.IsWhole) (A4 : Memref sig .tc .vmem S1x1x8x1024x128 .f32) (hA4 : A4.IsWhole)
  (A5 : Memref sig .tc .vmem S1x1x8x1024x128 .f32) (hA5 : A5.IsWhole) (A8 : Memref sig .tc .vmem S1x8x4x128 .f32) (hA8 : A8.IsWhole)
  {defs : Defs nD τ sig (Elt F) Λ₀} (tb : Bf (F := F) c (Memref.whole main_arg3)) (qt : PosShare TreeShare)

/-- The three running values at the end of pair `p`, of the query `q` and the blocks of the first keys `kv` and values `vv`. -/
def last3 (p : ℕ) (q : Vec F S8x4x128 .f32) (kv vv : Vec F S1x1x8x1024x128 .f32) : Vec F S8x4x128 .f32 × Vec F S8x4x128 .f32 × Vec F S8x4x128 .f32 :=
  iter (wd c tb (pbf p)) q (chunk c M1 fK (pbf p) (pl p)) (chunk c M2 fV (pbf p) (pl p)) (first3 (wd c tb (pbf p)) q kv vv) (nc (wd c tb (pbf p)))

/-- The scratch of the query, holding `q` where `p` says so. -/
def qsc (p : Prop) (q : Vec F S8x4x128 .f32) : sProp 𝕄 :=
  iprop(∃ f : Bf (F := F) c (Memref.whole cc0_scratch2), ⌜p → (Memref.whole cc0_scratch2).view.read (Elt F) f = q⌝ ∗ pt c (Memref.whole cc0_scratch2) f)

/-- The output's block: written at layer 1, as it was before at layer 0. -/
def osc (f8 : Bf (F := F) c A8) (o : Vec F S1x8x4x128 .f32) : sProp 𝕄 :=
  iprop(∃ f : Bf (F := F) c A8, ⌜((i 1).val = 1 → A8.view.read (Elt F) f = o) ∧ ((i 1).val ≠ 1 → f = f8)⌝ ∗ pt c A8 f)

set_option maxHeartbeats 4000000 in
/-- The body at point `i`. -/
theorem body_run (hT : ∀ b, InR (wd c tb b)) (f3 : Bf (F := F) c A3) (f4 : Bf (F := F) c A4) (f5 : Bf (F := F) c A5) (f8 : Bf (F := F) c A8) (q : Vec F S8x4x128 .f32)
    (hq : (i 1).val = 0 → q = k0_pay22 (A3.view.read (Elt F) f3))
    (st : Vec F S8x4x128 .f32 × Vec F S8x4x128 .f32 × Vec F S8x4x128 .f32)
    (hst : st = last3 c fK fV tb (pr i) q (A4.view.read (Elt F) f4) (A5.view.read (Elt F) f5))
    {Q : PUnit → sProp 𝕄} :
    iprop(tab c tb qt ∗ rds c fK fV ∗ slots c fK fV (wd c tb) (pr i) ∗ ow c ∗ pt c A3 f3 ∗ pt c A4 f4 ∗ pt c A5 f5 ∗ pt c A8 f8
        ∗ qsc c ((i 1).val = 1) q ∗ any3 c
        ∗ ((tab c tb qt ∗ rds c fK fV ∗ slots c fK fV (wd c tb) (pr i + 1) ∗ ow c ∗ pt c A3 f3 ∗ pt c A4 f4 ∗ pt c A5 f5
            ∗ osc c i A8 f8 (k0_pay8 st.2.2 st.2.1) ∗ qsc c ((i 1).val = 0) (k0_pay9 st.2.2 st.2.1) ∗ any3 c) -∗ Q ⟨⟩))
      ⊢ wp frame (wpE defs Variants.none c none) Set.univ (cc0__attn_kernel (F := F) i (Memref.whole main_arg3) (Memref.isWhole_whole _) A3 hA3 A4 hA4 A5 hA5 (Memref.whole main_arg1) (Memref.isWhole_whole _) (Memref.whole main_arg2) (Memref.isWhole_whole _) A8 hA8 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6) Q := by
  rw [cc0__attn_kernel_eq_skeleton]
  unfold cc0__attn_kernel_skel
  have hp := pr_lt i
  iintro ⟨HT, Hr, Hs, HO, H3, H4, H5, H8, Hq, Ha, HK⟩
  rw [wp_bind]
  iapply (part3_run c fK fV i A3 hA3 A4 hA4 A5 hA5 A8 hA8 tb qt hT f3 f4 f5 q hq)
  isplitl [HT]; · iexact HT
  isplitl [Hr]; · iexact Hr
  isplitl [Hs]; · iexact Hs
  isplitl [H3]; · iexact H3
  isplitl [H4]; · iexact H4
  isplitl [H5]; · iexact H5
  unfold qsc
  isplitl [Hq]; · iexact Hq
  iintro ⟨HT, Hr, ⟨Hf, Hn⟩, H3, H4, H5, Hq⟩
  dsimp only
  rw [wp_bind]
  iapply (part4_run c fK fV i A3 hA3 A4 hA4 A5 hA5 A8 hA8 tb qt hT)
  isplitl [HT]; · iexact HT
  isplitl [Hf]; · iexact Hf
  isplitl [HO]; · iexact HO
  isplitl [Ha]; · iexact Ha
  iintro ⟨HT, HO, ⟨Hsem, HL⟩, Hrun⟩
  rw [pbf_pr]
  iapply (wp_t7 c fK fV i A3 hA3 A4 hA4 A5 hA5 A8 hA8 _ (wd c tb (i 0)) (chk4 (hT _) i) q (hT _) 0#32 (i 0) (pl (pr i)) rfl (first3 (wd c tb (i 0)) q (A4.view.read (Elt F) f4) (A5.view.read (Elt F) f5))) $$ [HL Hrun]
  · isplitl [HL]; · iexact HL
    unfold first3
    iexact Hrun
  iintro %acc ⟨HL, Hrun⟩
  icombine HT Hr HO HL Hrun Hsem Hn H3 H4 H5 H8 Hq HK as H
  istop
  refine wp_t8 c i A3 hA3 A4 hA4 A5 hA5 A8 hA8 _ (wd c tb (i 0)) (chk4 (hT _) i) q _ (hT _) acc ?_
  unfold last3 at hst
  rw [pbf_pr] at hst
  rw [← hst]
  unfold run3 holds
  iintro ⟨HT, Hr, HO, HL, ⟨⟨%fm, %hfm, Hm⟩, ⟨%fl, %hfl, Hl⟩, ⟨%fx, %hfx, Hx⟩⟩, Hsem, Hn, H3, H4, H5, H8, ⟨%f2, %hf2, Hq⟩, HK⟩
  have e5 : View.readAt (Elt F) (Memref.whole cc0_scratch5).view (Rect.unit ![0, 0, 0] S8x4x128.size inb_S8x4x128_S8x4x128_0_0_0).toLoadRect fx = st.2.2 := (View.readAt_full _ _ _).trans hfx
  have e4 : View.readAt (Elt F) (Memref.whole cc0_scratch4).view (Rect.unit ![0, 0, 0] S8x4x128.size inb_S8x4x128_S8x4x128_0_0_0).toLoadRect fl = st.2.1 := (View.readAt_full _ _ _).trans hfl
  by_cases h1 : (i 1).val = 1
  · have h4 : k0_cond4 i = 1#1 := (cond4_iff i).mpr h1
    have h5 : ¬ Scalar.cmpi .ne (Scalar.extui (Scalar.cmpi .slt (BitVec.ofNat 32 (i 1).val) 1#32) : BitVec 32) 0#32 = 1#1 := fun h => absurd ((w_ll (i 1)).mp h) (by omega)
    simp only [dif_pos h4, dif_neg h5]
    sl_exec
    sl_step
    iapply HK
    isplitl [HT]; · iexact HT
    isplitl [Hr]; · iexact Hr
    isplitl [Hsem HL Hn]
    · iapply (slots_next c fK fV (wd c tb) (pr i) hp)
      isplitl [Hsem HL]
      · unfold idle
        isplitl [Hsem]; · iexact Hsem
        iapply (landed_rest c fK fV (i 0) (pl (pr i)) (pl (pr i)) (nc (wd c tb (i 0))))
        iexact HL
      iexact Hn
    isplitl [HO]; · iexact HO
    isplitl [H3]; · iexact H3
    isplitl [H4]; · iexact H4
    isplitl [H5]; · iexact H5
    isplitl [H8]
    · unfold osc
      iexists _
      isplitr [H8]; rotate_left
      · iexact H8
      ipureintro
      refine ⟨fun _ => View.read_writes_full _ _ _ _ _, fun h => absurd h1 h⟩
    isplitl [Hq]
    · iexists _
      isplitr [Hq]; rotate_left
      · iexact Hq
      ipureintro
      intro h; omega
    unfold any3
    isplitl [Hm]; · iexists _; iexact Hm
    isplitl [Hl]; · iexists _; iexact Hl
    iexists _; iexact Hx
  · have h0 : (i 1).val = 0 := by
      have h2 : (i 1).val < 2 := (i 1).isLt
      omega
    have h4 : ¬ k0_cond4 i = 1#1 := fun h => h1 ((cond4_iff i).mp h)
    have h5 : Scalar.cmpi .ne (Scalar.extui (Scalar.cmpi .slt (BitVec.ofNat 32 (i 1).val) 1#32) : BitVec 32) 0#32 = 1#1 := (w_ll (i 1)).mpr h0
    simp only [dif_neg h4, dif_pos h5]
    sl_exec
    sl_step
    iapply HK
    isplitl [HT]; · iexact HT
    isplitl [Hr]; · iexact Hr
    isplitl [Hsem HL Hn]
    · iapply (slots_next c fK fV (wd c tb) (pr i) hp)
      isplitl [Hsem HL]
      · unfold idle
        isplitl [Hsem]; · iexact Hsem
        iapply (landed_rest c fK fV (i 0) (pl (pr i)) (pl (pr i)) (nc (wd c tb (i 0))))
        iexact HL
      iexact Hn
    isplitl [HO]; · iexact HO
    isplitl [H3]; · iexact H3
    isplitl [H4]; · iexact H4
    isplitl [H5]; · iexact H5
    isplitl [H8]
    · unfold osc
      iexists _
      isplitr [H8]; rotate_left
      · iexact H8
      ipureintro
      exact ⟨fun h => absurd h h1, fun _ => rfl⟩
    isplitl [Hq]
    · iexists _
      isplitr [Hq]; rotate_left
      · iexact Hq
      ipureintro
      exact fun _ => View.read_writes_full _ _ _ _ _
    unfold any3
    isplitl [Hm]; · iexists _; iexact Hm
    isplitl [Hl]; · iexists _; iexact Hl
    iexists _; iexact Hx

end Cert.KernelIdeal.Gen

end
-- ==== Proof.ISplit.lean ====
/-
  A tail buffer held whole is its sixteen blocks, and back: what the launch hands the kernel's two slots, and what they
  give back at the end. With it the points of the grid as numbers.
-/
module

public import proofs.«01_k».proof.Proof.IRoot
public import proofs.«01_k».proof.Proof.Gen.KernelIdeal.Launch

@[expose] public section

set_option maxRecDepth 16384

noncomputable section

namespace Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F] [Named F]

local notation "𝕄" => MT nD τ sig Unit (Elt F) ℕ (UU nD τ) ℕ

variable (c : Dev nD)

/-- The elements of block `b.2` of slot `b.1`. -/
abbrev bset (b : Fin 2 × Fin 8) : Finset S2x8x1024x128.Idx := tset b.1 b.2.val

theorem bset_disj (b b' : Fin 2 × Fin 8) (h : b ≠ b') : Disjoint (bset b) (bset b') := by
  rw [Finset.disjoint_left]
  intro x hx hx'
  have h1 := (mem_tset _ _ _).1 hx
  have h2 := (mem_tset _ _ _).1 hx'
  exact h (Prod.ext (Fin.ext (by omega)) (Fin.ext (by omega)))

theorem bset_cover : Finset.univ.biUnion bset = Finset.univ := by
  ext x
  simp only [Finset.mem_biUnion, Finset.mem_univ, true_and, iff_true]
  have h0 : (x 0).val < 2 := (x 0).isLt
  have h2 : (x 2).val < 1024 := (x 2).isLt
  refine ⟨(⟨(x 0).val, h0⟩, ⟨(x 2).val / 128, by omega⟩), ?_⟩
  rw [mem_tset]
  dsimp only
  omega

theorem pair_list (Φ : Fin 2 × Fin 8 → sProp 𝕄) : (bigSep Finset.univ Φ : sProp 𝕄)
    = iprop(bigSep Finset.univ (fun k => Φ (0, k)) ∗ bigSep Finset.univ (fun k => Φ (1, k))) := by
  rw [← Finset.univ_product_univ, show (Finset.univ : Finset (Fin 2)) = {0, 1} from by decide]
  rw [show ({0, 1} : Finset (Fin 2)) ×ˢ (Finset.univ : Finset (Fin 8))
    = (Finset.univ.map ⟨fun k : Fin 8 => ((0 : Fin 2), k), fun _ _ h => (Prod.mk.inj h).2⟩) ∪ (Finset.univ.map ⟨fun k : Fin 8 => ((1 : Fin 2), k), fun _ _ h => (Prod.mk.inj h).2⟩) from by decide,
    bigSep_union (by decide), bigSep_map, bigSep_map]
  rfl

theorem D0_setOn (I : Finset S2x8x1024x128.Idx) : (D0).view.setOn I = I := by
  show I.map (Function.Embedding.refl _) = I
  exact Finset.map_refl

theorem D1_setOn (I : Finset S2x8x1024x128.Idx) : (D1).view.setOn I = I := by
  show I.map (Function.Embedding.refl _) = I
  exact Finset.map_refl

theorem blk0_of (s : Fin 2) (i : ℕ) (f : Bf (F := F) c D0) : ((D0).view.loc (c : Thread nD τ) ↦[tset s i]{fullShare} f : sProp 𝕄) ⊢ blk c D0 s i := by
  unfold blk; rw [D0_setOn]
  iintro H; iexists _; iexact H
theorem blk0_to (s : Fin 2) (i : ℕ) : blk c D0 s i ⊢ (iprop(∃ f, (D0).view.loc (c : Thread nD τ) ↦[tset s i]{fullShare} f) : sProp 𝕄) := by
  unfold blk; rw [D0_setOn]

theorem blk1_of (s : Fin 2) (i : ℕ) (f : Bf (F := F) c D1) : ((D1).view.loc (c : Thread nD τ) ↦[tset s i]{fullShare} f : sProp 𝕄) ⊢ blk c D1 s i := by
  unfold blk; rw [D1_setOn]
  iintro H; iexists _; iexact H
theorem blk1_to (s : Fin 2) (i : ℕ) : blk c D1 s i ⊢ (iprop(∃ f, (D1).view.loc (c : Thread nD τ) ↦[tset s i]{fullShare} f) : sProp 𝕄) := by
  unfold blk; rw [D1_setOn]

/-- The tail buffers and the semaphores, as launched, are the two slots idle; -/
theorem tails_idle : iprop((∃ f, pt c D0 f) ∗ (∃ f, pt c D1 f) ∗ semVal ((c : Thread nD τ), SemLoc.dma (cell 0)) 0 ∗ semVal ((c : Thread nD τ), SemLoc.dma (cell 1)) 0)
    ⊢ (iprop(idle c 0 ∗ idle c 1) : sProp 𝕄) := by
  have h0 : iprop(∃ f, pt c D0 f) ⊢ (iprop(bigSep Finset.univ (fun k : Fin 8 => blk c D0 0 k.val) ∗ bigSep Finset.univ (fun k : Fin 8 => blk c D0 1 k.val)) : sProp 𝕄) := by
    have key : ∀ f : Bf (F := F) c D0, pt c D0 f ⊢ (iprop(bigSep Finset.univ (fun k : Fin 8 => blk c D0 0 k.val) ∗ bigSep Finset.univ (fun k : Fin 8 => blk c D0 1 k.val)) : sProp 𝕄) := by
      intro f
      refine BIBase.Entails.trans (Entails.of_eq (Ring.pointsTo_blocks (ℓ := (D0).view.loc (c : Thread nD τ)) bset bset_disj bset_cover f)) ?_
      refine BIBase.Entails.trans (Entails.of_eq (pair_list (F := F) _)) (BIClass.sep_mono ?_ ?_) <;>
      · exact BI.bigSep_mono fun k _ => blk0_of c _ k.val f
    iintro ⟨%f, H⟩
    iapply (key f) $$ H
  have h1 : iprop(∃ f, pt c D1 f) ⊢ (iprop(bigSep Finset.univ (fun k : Fin 8 => blk c D1 0 k.val) ∗ bigSep Finset.univ (fun k : Fin 8 => blk c D1 1 k.val)) : sProp 𝕄) := by
    have key : ∀ f : Bf (F := F) c D1, pt c D1 f ⊢ (iprop(bigSep Finset.univ (fun k : Fin 8 => blk c D1 0 k.val) ∗ bigSep Finset.univ (fun k : Fin 8 => blk c D1 1 k.val)) : sProp 𝕄) := by
      intro f
      refine BIBase.Entails.trans (Entails.of_eq (Ring.pointsTo_blocks (ℓ := (D1).view.loc (c : Thread nD τ)) bset bset_disj bset_cover f)) ?_
      refine BIBase.Entails.trans (Entails.of_eq (pair_list (F := F) _)) (BIClass.sep_mono ?_ ?_) <;>
      · exact BI.bigSep_mono fun k _ => blk1_of c _ k.val f
    iintro ⟨%f, H⟩
    iapply (key f) $$ H
  unfold idle rest
  rw [Ring.rangeSet_univ]
  iintro ⟨H0, H1, S0, S1⟩
  ihave B0 := h0 $$ H0
  ihave B1 := h1 $$ H1
  icases B0 with ⟨B00, B01⟩
  icases B1 with ⟨B10, B11⟩
  isplitl [S0 B00 B10]
  · isplitl [S0]; · iexact S0
    isplitl [B00] <;> iassumption
  · isplitl [S1]; · iexact S1
    isplitl [B01] <;> iassumption

/-- and back. -/
theorem idle_tails : (iprop(idle c 0 ∗ idle c 1) : sProp 𝕄)
    ⊢ iprop((∃ f, pt c D0 f) ∗ (∃ f, pt c D1 f) ∗ semVal ((c : Thread nD τ), SemLoc.dma (cell 0)) 0 ∗ semVal ((c : Thread nD τ), SemLoc.dma (cell 1)) 0) := by
  have h0 : (iprop(bigSep Finset.univ (fun k : Fin 8 => blk c D0 0 k.val) ∗ bigSep Finset.univ (fun k : Fin 8 => blk c D0 1 k.val)) : sProp 𝕄) ⊢ iprop(∃ f, pt c D0 f) := by
    refine BIBase.Entails.trans ?_ (Ring.pointsTo_blocks_join_exists (ℓ := (D0).view.loc (c : Thread nD τ)) bset bset_disj bset_cover (fun _ => Classical.arbitrary _))
    refine BIBase.Entails.trans (BIClass.sep_mono ?_ ?_) (Entails.of_eq (pair_list (F := F) _).symm) <;>
    · exact BI.bigSep_mono fun k _ => blk0_to c _ k.val
  have h1 : (iprop(bigSep Finset.univ (fun k : Fin 8 => blk c D1 0 k.val) ∗ bigSep Finset.univ (fun k : Fin 8 => blk c D1 1 k.val)) : sProp 𝕄) ⊢ iprop(∃ f, pt c D1 f) := by
    refine BIBase.Entails.trans ?_ (Ring.pointsTo_blocks_join_exists (ℓ := (D1).view.loc (c : Thread nD τ)) bset bset_disj bset_cover (fun _ => Classical.arbitrary _))
    refine BIBase.Entails.trans (BIClass.sep_mono ?_ ?_) (Entails.of_eq (pair_list (F := F) _).symm) <;>
    · exact BI.bigSep_mono fun k _ => blk1_to c _ k.val
  unfold idle rest
  rw [Ring.rangeSet_univ]
  iintro ⟨⟨S0, B00, B10⟩, S1, B01, B11⟩
  isplitl [B00 B01]
  · iapply h0; isplitl [B00] <;> iassumption
  isplitl [B10 B11]
  · iapply h1; isplitl [B10] <;> iassumption
  isplitl [S0] <;> iassumption

theorem pr_coords : ∀ t : Fin grid0.N, pr (grid0.coords t) = t.val := by decide +kernel
theorem coords_layer : ∀ t : Fin grid0.N, (grid0.coords t 1).val = t.val % 2 := by decide +kernel

/-- A whole memref held at contents `X` is its buffer held at some contents read as `X`. -/
theorem owns_pt {sp : Space} {S : Shape} {e : EltTy} (M : Memref sig .tc sp S e) (h : M.IsWhole) (X : S.Idx → Elt F e) :
    (owns (c : Thread nD τ) M fullShare X : sProp 𝕄) = iprop(∃ f : Bf (F := F) c M, ⌜M.view.read (Elt F) f = X⌝ ∗ pt c M f) := by
  unfold owns; rw [h.set_eq_univ]

end Cert.KernelIdeal.Gen

end
-- ==== Proof.IDat.lean ====
/-
  The proof data of the region: what the windows hold, what the two scratches of the query and of the tail hold between
  the points, and the body's obligation at every point.
-/
module

public import proofs.«01_k».proof.Proof.ISplit
public import Idealize.ShloMosaic.Lib.Pipeline.Regions

@[expose] public section

set_option maxRecDepth 16384

noncomputable section

namespace Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation)

variable {F : FTy → Type} [FloatOps F] [Named F]

local notation "𝕄" => MT nD τ sig Unit (Elt F) ℕ (UU nD τ) ℕ

variable (m : (ℓ : Loc nD τ sig) → Buf (Elt F) ℓ)

/-- Core `c`'s buffers at launch, -/
abbrev V₀ (c : Dev nD) : Valuation τ sig (Elt F) := fun b => m (c, b)
/-- and when the region is entered: the query is laid out by heads. -/
abbrev V (c : Dev nD) (b : Ref sig .tc) : Buf (Elt F) ((c : Thread nD τ).loc b) := StableHlo.after hostOps0 (V₀ m c) b

/-- Nothing but the laid-out query is written before the region. -/
theorem V_of_ne (c : Dev nD) (b : Ref sig .tc) (hb : b ≠ main_call0_v0) : V m c b = m ((c : Thread nD τ).loc b) := by
  refine StableHlo.after_of_forall_not_mem (b := Proc.devRef .tc b) hostOps0 (V₀ m c) ?_
  intro op hop
  simp only [List.mem_cons, List.mem_nil_iff, or_false] at hop
  subst hop
  show Proc.devRef .tc b ∉ ({Proc.devRef .tc main_call0_v0} : Finset (DevRef τ sig))
  rw [Finset.mem_singleton]
  exact StableHlo.devRef_ne_of_ne hb

/-- The context lengths as the region reads them. -/
def adm : (p : Fin 1) → (pcfgs (F := F) p).Adm := fun _ => ⟨fun k => m (((0 : Dev nD) : Thread nD τ).loc (pre0.ref k)), trivial⟩
/-- The region's pipeline. -/
abbrev cfgA : Cfg sig Λ₀ := cfg0 (adm m 0)

abbrev tb (c : Dev nD) : Bf (F := F) c (Memref.whole main_arg3) := (adm m 0).1 0
abbrev fK (c : Dev nD) : Bf (F := F) c M1 := m ((c : Thread nD τ).loc main_arg1)
abbrev fV (c : Dev nD) : Bf (F := F) c M2 := m ((c : Thread nD τ).loc main_arg2)

theorem tb_eq (c : Dev nD) : tb m c = m ((c : Thread nD τ).loc main_arg3) := by
  obtain rfl : c = 0 := Subsingleton.elim _ _; rfl

/-- The block of a window's array at point `t`. -/
def X (c : Dev nD) (w : Fin 4) (t : Fin grid0.N) : ((cfgA m).win w).block.Idx → Elt F ((cfgA m).win w).elt :=
  (((cfgA m).win w).blk t).view.read (Elt F) (V m c (Pipeline.arrRef spec0 w))

/-- The three accumulators at the end of point `t`, entered with query `q`. -/
def stq (c : Dev nD) (t : Fin grid0.N) (q : Vec F S8x4x128 .f32) : Vec F S8x4x128 .f32 × Vec F S8x4x128 .f32 × Vec F S8x4x128 .f32 :=
  last3 c (fK m c) (fV m c) (tb m c) t.val q (X m c 1 t) (X m c 2 t)
/-- The point before. -/
def prev (t : Fin grid0.N) : Fin grid0.N := ⟨t.val - 1, lt_of_le_of_lt (Nat.sub_le _ _) t.isLt⟩
/-- The query of layer 0; -/
def q0 (c : Dev nD) (t : Fin grid0.N) : Vec F S8x4x128 .f32 := k0_pay22 (X m c 0 t)
/-- of layer 1: what layer 0 left. -/
def q1 (c : Dev nD) (t : Fin grid0.N) : Vec F S8x4x128 .f32 :=
  k0_pay9 (stq m c (prev t) (q0 m c (prev t))).2.2 (stq m c (prev t) (q0 m c (prev t))).2.1
/-- The query of point `t`, -/
def qat (c : Dev nD) (t : Fin grid0.N) : Vec F S8x4x128 .f32 := if t.val % 2 = 0 then q0 m c t else q1 m c t
def qn (c : Dev nD) (n : ℕ) : Vec F S8x4x128 .f32 := if h : n < grid0.N then qat m c ⟨n, h⟩ else qat m c t0_0
/-- and what it leaves. -/
def fin (c : Dev nD) (t : Fin grid0.N) : Vec F S8x4x128 .f32 × Vec F S8x4x128 .f32 × Vec F S8x4x128 .f32 := stq m c t (qat m c t)
def outv (c : Dev nD) (t : Fin grid0.N) : Vec F S1x8x4x128 .f32 := k0_pay8 (fin m c t).2.2 (fin m c t).2.1

theorem qn_val (c : Dev nD) (t : Fin grid0.N) : qn m c t.val = qat m c t := dif_pos t.isLt

theorem qn_succ (c : Dev nD) (t : Fin grid0.N) (h : t.val % 2 = 0) : qn m c (t.val + 1) = k0_pay9 (fin m c t).2.2 (fin m c t).2.1 := by
  have h16 := N_0
  have ht := t.isLt
  have hl : t.val + 1 < grid0.N := by omega
  rw [qn, dif_pos hl, qat, if_neg (by show ¬ (t.val + 1) % 2 = 0; omega), q1]
  have e : prev ⟨t.val + 1, hl⟩ = t := Fin.ext (by show t.val + 1 - 1 = t.val; omega)
  rw [e, fin, qat, if_pos h]

/-- Before point `n`: the slots, the query's scratch, the context lengths, the caches, three scratches at anything. -/
def Φn (c : Dev nD) (n : ℕ) : sProp 𝕄 :=
  iprop(slots c (fK m c) (fV m c) (wd c (tb m c)) n ∗ qsc c (n % 2 = 1) (qn m c n) ∗ tab c (tb m c) fullShare ∗ rds c (fK m c) (fV m c) ∗ any3 c)

/-- The proof data on core `c`. -/
def dats (_ : Fin 1) (c : Dev nD) : Dat τ (Elt F) Unit ℕ (UU nD τ) ℕ (cfgA m) c where
  A w := V m c (Pipeline.arrRef spec0 w)
  after w t := match w with
    | ⟨0, _⟩ => X m c 0 t
    | ⟨1, _⟩ => X m c 1 t
    | ⟨2, _⟩ => X m c 2 t
    | ⟨3, _⟩ => outv m c t
  Φ t := Φn m c t.val
  q w := match w with
    | ⟨0, _⟩ => fullShare
    | ⟨1, _⟩ => fullShare.left
    | ⟨2, _⟩ => fullShare.left
    | ⟨3, _⟩ => fullShare
  owed _ := 0

theorem A_eq (c : Dev nD) (w : Fin 4) : (dats m 0 c).A w = V m c (Pipeline.arrRef spec0 w) := by
  dsimp only [dats]

theorem before_0 (c : Dev nD) (t : Fin grid0.N) (d) : (dats m 0 c).before 0 t d = X m c 0 t :=
  Dat.before_in_eq_fetched (dats m 0 c) 0 rfl (fun _ => rfl) (fun _ _ _ => rfl) (fun _ => rfl) t d
theorem before_1 (c : Dev nD) (t : Fin grid0.N) (d) : (dats m 0 c).before 1 t d = X m c 1 t :=
  Dat.before_in_eq_fetched (dats m 0 c) 1 rfl (fun _ => rfl) (fun _ _ _ => rfl) (fun _ => rfl) t d
theorem before_2 (c : Dev nD) (t : Fin grid0.N) (d) : (dats m 0 c).before 2 t d = X m c 2 t :=
  Dat.before_in_eq_fetched (dats m 0 c) 2 rfl (fun _ => rfl) (fun _ _ _ => rfl) (fun _ => rfl) t d

theorem idle_3 (t : Fin grid0.N) : (cfgA m).idle 3 (grid0.coords t) = decide (t.val % 2 = 0) := by
  have key : ∀ t : Fin grid0.N, (!(k0_cond4 (grid0.coords t) == 1#1)) = decide (t.val % 2 = 0) := by decide +kernel
  exact key t

theorem flush_3 (t : Fin grid0.N) : ((cfgA m).win 3).flush t = decide (t.val % 2 = 1) := by
  have key : ∀ t : Fin grid0.N, (true && (decide (t.val + 1 = grid0.N) || decide (∃ h : t.val + 1 < grid0.N,
      cc0_transform_5 (grid0.coords ⟨t.val + 1, h⟩) ≠ cc0_transform_5 (grid0.coords t)))) = decide (t.val % 2 = 1) := by decide +kernel
  exact key t

theorem owns_in (c : Dev nD) {sp : Space} {S : Shape} {e : EltTy} (M : Memref sig .tc sp S e) (h : M.IsWhole) {X : S.Idx → Elt F e}
    (f : Bf (F := F) c M) (hf : M.view.read (Elt F) f = X) : pt c M f ⊢ (owns (c : Thread nD τ) M fullShare X : sProp 𝕄) := by
  rw [owns_pt c M h]
  iintro H; iexists f; isplitr; · ipureintro; exact hf
  iexact H
theorem owns_out (c : Dev nD) {sp : Space} {S : Shape} {e : EltTy} (M : Memref sig .tc sp S e) (h : M.IsWhole) (X : S.Idx → Elt F e) :
    (owns (c : Thread nD τ) M fullShare X : sProp 𝕄) ⊢ iprop(∃ f : Bf (F := F) c M, ⌜M.view.read (Elt F) f = X⌝ ∗ pt c M f) :=
  Entails.of_eq (owns_pt c M h X)

theorem qsc_mono (c : Dev nD) {p p' : Prop} {q q' : Vec F S8x4x128 .f32} (hp : p' → p) (hq : p' → q = q') : qsc c p q ⊢ (qsc c p' q' : sProp 𝕄) := by
  unfold qsc
  iintro ⟨%f, %h, H⟩
  iexists f; isplitr; · ipureintro; exact fun h' => (h (hp h')).trans (hq h')
  iexact H

/-- The body at point `t`, on the windows' current buffers. -/
theorem body_obligation (hT : ∀ c b, InR (wd c (tb m c) b)) (c : Dev nD) : BodyObligation (dats m 0 c) (defs₀ (F := F)) Variants.none () Set.univ := fun t => by
  rw [bigSep_W0, bigSep_W0]
  rw [show (dats m 0 c).Φ t.castSucc = Φn m c t.val from rfl, show (dats m 0 c).Φ t.succ = Φn m c (t.val + 1) from rfl]
  unfold Dat.owesAt Pipeline.owesWithin
  rw [show (dats m 0 c).owed t.castSucc = 0 from rfl, show (dats m 0 c).owed t.succ = 0 from rfl]
  unfold Φn
  dsimp only
  have hc := coords_layer t
  have hpr := pr_coords t
  iintro ⟨⟨Hs, Hq, Ht, Hr, Ha⟩, ⟨%W, %hW, HO⟩, ⟨%d0, H0⟩, ⟨%d1, H1⟩, ⟨%d2, H2⟩, ⟨%d3, H3⟩⟩
  ihave H0 := (owns_out c (stage0_0 ((cfgA m).slots t 0)) (hstage0_0 _) _) $$ H0
  ihave H1 := (owns_out c (stage0_1 ((cfgA m).slots t 1)) (hstage0_1 _) _) $$ H1
  ihave H2 := (owns_out c (stage0_2 ((cfgA m).slots t 2)) (hstage0_2 _) _) $$ H2
  ihave H3 := (owns_out c (stage0_3 ((cfgA m).slots t 3)) (hstage0_3 _) _) $$ H3
  icases H0 with ⟨%f0, %h0, H0⟩
  icases H1 with ⟨%f1, %h1, H1⟩
  icases H2 with ⟨%f2, %h2, H2⟩
  icases H3 with ⟨%f3, %h3, H3⟩
  replace h0 := h0.trans (before_0 m c t d0)
  replace h1 := h1.trans (before_1 m c t d1)
  replace h2 := h2.trans (before_2 m c t d2)
  have hb : defs₀ (F := F) Proc.tc 0 (t, (cfgA m).slots t) = cc0__attn_kernel (F := F) (grid0.coords t) (Memref.whole main_arg3) (Memref.isWhole_whole _)
    (stage0_0 ((cfgA m).slots t 0)) (hstage0_0 _) (stage0_1 ((cfgA m).slots t 1)) (hstage0_1 _) (stage0_2 ((cfgA m).slots t 2)) (hstage0_2 _)
    (Memref.whole main_arg1) (Memref.isWhole_whole _) (Memref.whole main_arg2) (Memref.isWhole_whole _) (stage0_3 ((cfgA m).slots t 3)) (hstage0_3 _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _) cc0_scratch6 := rfl
  rw [hb]
  iapply (body_run c (fK m c) (fV m c) (grid0.coords t) (stage0_0 ((cfgA m).slots t 0)) (hstage0_0 _) (stage0_1 ((cfgA m).slots t 1)) (hstage0_1 _)
    (stage0_2 ((cfgA m).slots t 2)) (hstage0_2 _) (stage0_3 ((cfgA m).slots t 3)) (hstage0_3 _) (tb m c) fullShare (hT c) f0 f1 f2 f3 (qat m c t)
    (fun h => by rw [qat, if_pos (hc.symm.trans h), h0]; rfl) (fin m c t) (by rw [hpr, h1, h2]; rfl))
  rw [hpr, hc, qn_val]
  isplitl [Ht]; · iexact Ht
  isplitl [Hr]; · iexact Hr
  isplitl [Hs]; · iexact Hs
  isplitl [HO]; · unfold ow; iexists W; iexact HO
  isplitl [H0]; · iexact H0
  isplitl [H1]; · iexact H1
  isplitl [H2]; · iexact H2
  isplitl [H3]; · iexact H3
  isplitl [Hq]; · iexact Hq
  isplitl [Ha]; · iexact Ha
  iintro ⟨Ht, Hr, Hs, HO, H0, H1, H2, H3, Hq, Ha⟩
  isplitl [Ht Hr Hs Hq Ha]
  · isplitl [Hs]; · iexact Hs
    isplitl [Hq]
    · iapply (qsc_mono c (fun h => (by omega : t.val % 2 = 0)) (fun h => (qn_succ m c t (by omega)).symm)) $$ Hq
    isplitl [Ht]; · iexact Ht
    isplitl [Hr]; · iexact Hr
    iexact Ha
  isplitl [HO]
  · unfold ow; icases HO with ⟨%W', HO⟩
    iexists W'; isplitr; · ipureintro; exact fun _ _ => Or.inl trivial
    iexact HO
  isplitl [H0]; · iapply (owns_in c (stage0_0 ((cfgA m).slots t 0)) (hstage0_0 _) f0 h0) $$ H0
  isplitl [H1]; · iapply (owns_in c (stage0_1 ((cfgA m).slots t 1)) (hstage0_1 _) f1 h1) $$ H1
  isplitl [H2]; · iapply (owns_in c (stage0_2 ((cfgA m).slots t 2)) (hstage0_2 _) f2 h2) $$ H2
  unfold osc
  icases H3 with ⟨%f, %hf, H3⟩
  rw [hc] at hf
  rcases Nat.mod_two_eq_zero_or_one t.val with h | h
  · have hi : idle0 3 (((pcfg0 (F := F)).gridAt (adm m 0).1).coords t) = true := (idle_3 m t).trans (decide_eq_true h)
    have hfl : ((pcfg0 (F := F)).win (adm m 0) 3).flush t = false := (flush_3 m t).trans (decide_eq_false (by omega))
    rw [hi]
    obtain rfl := hf.2 (by omega)
    dsimp only
    split
    · iexists d3
      iapply (owns_in c (stage0_3 ((cfgA m).slots t 3)) (hstage0_3 _) f h3) $$ H3
    · rename_i e; exact absurd (hfl.symm.trans e) (by decide)
  · have hi : idle0 3 (((pcfg0 (F := F)).gridAt (adm m 0).1).coords t) = false := (idle_3 m t).trans (decide_eq_false (by omega))
    rw [hi]
    iapply (owns_in c (stage0_3 ((cfgA m).slots t 3)) (hstage0_3 _) f (hf.1 h)) $$ H3

end Cert.KernelIdeal.Gen

end
-- ==== Proof.IRun.lean ====
/-
  The launch: the query laid out, the region, the result laid out. Every execution ends, the four arguments are as they
  were, the result is what the region leaves, every semaphore is at zero.
-/
module

public import proofs.«01_k».proof.Proof.IDat

@[expose] public section

set_option maxRecDepth 16384

noncomputable section

namespace Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation)

variable {F : FTy → Type} [FloatOps F] [Named F]

local notation "𝕄" => MT nD τ sig Unit (Elt F) ℕ (UU nD τ) ℕ

variable (m : (ℓ : Loc nD τ sig) → Buf (Elt F) ℓ)

/-- A buffer of core `c` held along a share. -/
abbrev at' (c : Dev nD) (b : Ref sig .tc) (q : PosShare TreeShare) (f : Buf (Elt F) ((c : Thread nD τ).loc b)) : sProp 𝕄 :=
  ((c : Thread nD τ).loc b) ↦{q} f

/-- The windows' arrays, one by one: the caches at half. -/
theorem arrays_list (c : Dev nD) (G : (w : Fin 4) → Buf (Elt F) (((cfgA m).win w).arr.view.loc (c : Thread nD τ))) :
    ((dats m 0 c).arrays G : sProp 𝕄) = iprop(at' c main_call0_v0 fullShare (G 0) ∗ at' c main_arg1 fullShare.left (G 1)
      ∗ at' c main_arg2 fullShare.left (G 2) ∗ at' c main_call0_v1 fullShare (G 3)) := by
  have k : ∀ w : Fin 4, (((cfgA m).win w).arr.view.loc (c : Thread nD τ) ↦[((cfgA m).win w).arr.view.set]{(dats m 0 c).share w} G w : sProp 𝕄)
      = (((cfgA m).win w).arr.view.loc (c : Thread nD τ) ↦[Finset.univ]{(dats m 0 c).share w} G w) := fun w => by
    rw [show ((cfgA m).win w).arr.view.set = Finset.univ from (arr_whole0 w).set_eq_univ]
  unfold Dat.arrays
  exact (bigSep_congr fun w _ => k w).trans (bigSep_W0 _)

/-- The one table. -/
theorem prefHeld_one (c : Dev nD) (v : pre0.Contents (Elt F)) :
    (Pipeline.prefHeld pre0 c (fun _ => fullShare) v : sProp 𝕄) = at' c main_arg3 fullShare (v 0) := by
  unfold Pipeline.prefHeld
  rw [show (Finset.univ : Finset (Fin 1)) = {0} from by decide, bigSep_singleton]
  rfl

/-- The kernel's own semaphores. -/
def osem : Fin 2 → SemLoc sig := fun s => SemLoc.dma (cell s)
theorem ownSemFacts : Pipeline.OwnSemFacts spec0 osem := by decide
theorem ownSems0_eq (c : Dev nD) :
    (Pipeline.ownSems0 (Ix := Unit) (Name := ℕ) (U := UU nD τ) (Lvl := ℕ) (Val := Elt F) (τ := τ) osem c : sProp 𝕄)
      = iprop(semVal ((c : Thread nD τ), SemLoc.dma (cell 0)) 0 ∗ semVal ((c : Thread nD τ), SemLoc.dma (cell 1)) 0) :=
  Pipeline.ownSems0_eq_of_list c osem [0, 1] (by decide) (by decide)

/-- The buffers outside the scratches. -/
def ucRefs : Finset (DevRef τ sig) := (StableHlo.tcRefs τ sig).filter fun b => ¬ b.isScoped

theorem unscopedBufs_held (c : Dev nD) (W : Valuation τ sig (Elt F)) :
    (unscopedBufs c (fun b => W b) : sProp 𝕄) = StableHlo.held (c : Thread nD τ) ucRefs W := by
  unfold unscopedBufs StableHlo.held ucRefs StableHlo.tcRefs
  rw [Finset.filter_map, bigSep_map]
  rfl

theorem sub_ucRefs (op : HloOp τ sig (Elt F)) (h : op.bufs ⊆ StableHlo.tcRefs τ sig) : op.bufs ⊆ ucRefs := fun b hb =>
  Finset.mem_filter.mpr ⟨h hb, fun h' => Bool.false_ne_true ((op.no_scoped b hb).symm.trans h')⟩

abbrev EP : Emb (UR sig nD τ) (MT nD τ sig Unit (Elt F) ℕ (UU nD τ) ℕ) := embL
abbrev L : GSem nD τ sig → Finset Unit := fun _ => ∅
abbrev lv : GSem nD τ sig → Unit → ℕ := fun _ _ => 0
abbrev cells0 := Pipeline.pin (pcfgs (F := F)) (adm m)
def u₀ : UU nD τ := (initOf (Pipeline.cells (cells0 m) (cellOf_inj (adm m))) (Pipeline.launchToks (cells0 m) (cellOf_inj (adm m))), 1)

/-- What the region leaves in its output. -/
def outA (c : Dev nD) : Buf (Elt F) ((c : Thread nD τ).loc main_call0_v1) := (dats m 0 c).arrAt 3 (cfgA m).N
/-- The buffers once the region is done. -/
def V₁ (c : Dev nD) : Valuation τ sig (Elt F) := Function.update (StableHlo.after hostOps0 (V₀ m c)) (Proc.devRef .tc main_call0_v1) (outA m c)
/-- The result. -/
def outF (c : Dev nD) : Buf (Elt F) ((c : Thread nD τ).loc main_v0) := StableHlo.after hostOps1 (V₁ m c) (Proc.devRef .tc main_v0)

/-- The two buffers of the last operation. -/
def two : Finset (DevRef τ sig) := {Proc.devRef .tc main_call0_v1, Proc.devRef .tc main_v0}

theorem held_two (c : Dev nD) (W : Valuation τ sig (Elt F)) : (StableHlo.held (c : Thread nD τ) two W : sProp 𝕄)
    = iprop(at' c main_call0_v1 fullShare (W (Proc.devRef .tc main_call0_v1)) ∗ at' c main_v0 fullShare (W (Proc.devRef .tc main_v0))) := by
  unfold StableHlo.held two
  rw [bigSep_insert (by decide), bigSep_singleton]
  rfl

abbrev R (c : Dev nD) : sProp 𝕄 := iprop(∃ W, owes (c : Thread nD τ) (0 : CellTallies nD τ sig Unit) W)
/-- The four arguments as launched. -/
abbrev argsAt (c : Dev nD) : sProp 𝕄 := iprop(at' c main_arg0 fullShare (m ((c : Thread nD τ).loc main_arg0)) ∗ at' c main_arg1 fullShare.left (m ((c : Thread nD τ).loc main_arg1))
  ∗ at' c main_arg2 fullShare.left (m ((c : Thread nD τ).loc main_arg2)) ∗ at' c main_arg3 fullShare (m ((c : Thread nD τ).loc main_arg3)))

def seg0 : Pipeline.HostSeg (Name := ℕ) (U := UU nD τ) (pcfgs (F := F)) defs₀ Variants.none L lv :=
  Pipeline.HostSeg.ofOps _ _ _ _ _ ucRefs hostOps0 (fun op h => sub_ucRefs op ((List.forall_iff_forall_mem.mp hostOps0_sub) op h))
    (by intro _ h; (repeat (cases h with | head => rfl | tail _ h => ?_)); exact nomatch h) (V₀ m) R

theorem two_sub : ∀ op ∈ (hostOps1 : List (HloOp τ sig (Elt F))), op.bufs ⊆ two := by
  intro op h
  simp only [List.mem_cons, List.mem_nil_iff, or_false] at h
  subst h
  show ({Proc.devRef .tc main_call0_v1, Proc.devRef .tc main_v0} : Finset (DevRef τ sig)) ⊆ two
  exact Finset.Subset.refl _

def seg1 : Pipeline.HostSeg (Name := ℕ) (U := UU nD τ) (pcfgs (F := F)) defs₀ Variants.none L lv :=
  Pipeline.HostSeg.ofOps _ _ _ _ _ two hostOps1 two_sub
    (by intro _ h; (repeat (cases h with | head => rfl | tail _ h => ?_)); exact nomatch h) (V₁ m) (fun c => iprop(argsAt m c ∗ R c))

theorem entry_split (c : Dev nD) : (unscopedBufs c (V m c) : sProp 𝕄) ⊢ iprop((dats m 0 c).arrays ((dats m 0 c).arrAt · 0)
    ∗ at' c main_arg3 fullShare (m ((c : Thread nD τ).loc main_arg3)) ∗ rds c (fK m c) (fV m c)
    ∗ at' c main_arg0 fullShare (m ((c : Thread nD τ).loc main_arg0)) ∗ at' c main_v0 fullShare (V m c main_v0)) := by
  rw [Pipeline.unscopedBufs_split (Pipeline.pin (pcfgs (F := F)) (adm m)) 0 winFacts0.arr_unscoped winFacts0.arr_inj c (V m c)]
  rw [show (Pipeline.unscopedRest (Pipeline.pin (pcfgs (F := F)) (adm m) 0).spec c (V m c) : sProp 𝕄) = _ from Pipeline.unscopedRest_split preFacts0 c (V m c)]
  rw [unscopedRestP0_eq, prefHeld_one]
  rw [show (bigSep Finset.univ fun w => (((c : Thread nD τ).loc (Pipeline.arrRef (Pipeline.pin (pcfgs (F := F)) (adm m) 0).spec w)) ↦{fullShare} V m c (Pipeline.arrRef (Pipeline.pin (pcfgs (F := F)) (adm m) 0).spec w) : sProp 𝕄)) = _ from bigSep_W0 _]
  rw [arrays_list]
  show iprop((at' c main_call0_v0 fullShare (V m c main_call0_v0) ∗ at' c main_arg1 fullShare (V m c main_arg1) ∗ at' c main_arg2 fullShare (V m c main_arg2) ∗ at' c main_call0_v1 fullShare (V m c main_call0_v1))
      ∗ at' c main_arg3 fullShare (V m c main_arg3) ∗ at' c main_arg0 fullShare (V m c main_arg0) ∗ at' c main_v0 fullShare (V m c main_v0))
    ⊢ iprop((at' c main_call0_v0 fullShare (V m c main_call0_v0) ∗ at' c main_arg1 fullShare.left (V m c main_arg1) ∗ at' c main_arg2 fullShare.left (V m c main_arg2) ∗ at' c main_call0_v1 fullShare (V m c main_call0_v1))
      ∗ at' c main_arg3 fullShare (m ((c : Thread nD τ).loc main_arg3)) ∗ rds c (fK m c) (fV m c)
      ∗ at' c main_arg0 fullShare (m ((c : Thread nD τ).loc main_arg0)) ∗ at' c main_v0 fullShare (V m c main_v0))
  rw [V_of_ne m c main_arg1 (by decide), V_of_ne m c main_arg2 (by decide), V_of_ne m c main_arg3 (by decide), V_of_ne m c main_arg0 (by decide)]
  iintro ⟨⟨Hq, H1, H2, Ho⟩, H3, H0, Hv⟩
  ihave H1 := (pointsTo_share (PosShare.mem_left_op_right fullShare)).1 $$ H1
  ihave H2 := (pointsTo_share (PosShare.mem_left_op_right fullShare)).1 $$ H2
  icases H1 with ⟨H1, H1'⟩
  icases H2 with ⟨H2, H2'⟩
  isplitl [Hq H1 H2 Ho]
  · isplitl [Hq]; · iexact Hq
    isplitl [H1]; · iexact H1
    isplitl [H2] <;> iassumption
  isplitl [H3]; · iexact H3
  isplitl [H1' H2']
  · unfold rds rd
    isplitl [H1']
    · iexists fullShare.right; iexact H1'
    · iexists fullShare.right; iexact H2'
  isplitl [H0] <;> iassumption

/-- The scratches as launched and as left. -/
theorem start_inv (c : Dev nD) : iprop((semVal ((c : Thread nD τ), SemLoc.dma (cell 0)) 0 ∗ semVal ((c : Thread nD τ), SemLoc.dma (cell 1)) 0) ∗ rds c (fK m c) (fV m c)
    ∗ at' c main_arg3 fullShare (tb m c) ∗ Pipeline.scopedRest (Ix := Unit) (Name := ℕ) (U := UU nD τ) (Lvl := ℕ) (Val := Elt F) spec0 c) ⊢ (Φn m c 0 : sProp 𝕄) := by
  rw [scopedRest0_eq]
  unfold Φn slots qsc any3 tab
  rw [if_neg (by omega)]
  iintro ⟨⟨S0, S1⟩, Hr, Ht, B0, B1, ⟨%f2, B2⟩, B3, B4, B5⟩
  isplitl [S0 S1 B0 B1]
  · iapply (tails_idle c)
    isplitl [B0]; · iexact B0
    isplitl [B1]; · iexact B1
    isplitl [S0] <;> iassumption
  isplitl [B2]
  · iexists f2; isplitr; · ipureintro; intro h; exact absurd h (by decide)
    iexact B2
  isplitl [Ht]; · iexact Ht
  isplitl [Hr]; · iexact Hr
  isplitl [B3]; · iexact B3
  isplitl [B4] <;> iassumption

theorem end_inv (c : Dev nD) : (Φn m c 16 : sProp 𝕄) ⊢ iprop((rds c (fK m c) (fV m c)
    ∗ at' c main_arg3 fullShare (tb m c)) ∗ (semVal ((c : Thread nD τ), SemLoc.dma (cell 0)) 0 ∗ semVal ((c : Thread nD τ), SemLoc.dma (cell 1)) 0)
    ∗ Pipeline.scopedRest (Ix := Unit) (Name := ℕ) (U := UU nD τ) (Lvl := ℕ) (Val := Elt F) spec0 c) := by
  rw [scopedRest0_eq]
  unfold Φn slots qsc any3 tab
  rw [if_neg (by omega)]
  iintro ⟨Hs, ⟨%f2, -, B2⟩, Ht, Hr, B3, B4, B5⟩
  ihave Hs := (idle_tails c) $$ Hs
  icases Hs with ⟨B0, B1, S0, S1⟩
  isplitl [Hr Ht]
  · isplitl [Hr] <;> iassumption
  isplitl [S0 S1]
  · isplitl [S0] <;> iassumption
  isplitl [B0]; · iexact B0
  isplitl [B1]; · iexact B1
  isplitl [B2]; · iexists f2; iexact B2
  isplitl [B3]; · iexact B3
  isplitl [B4] <;> iassumption

variable (hT : ∀ c b, InR (wd c (tb m c) b))

set_option backward.isDefEq.respectTransparency.types false in
/-- The region. -/
def reg0 : Pipeline.RegionSeg (pcfgs (F := F)) (adm m) (dats m) () defs₀ Variants.none L lv 0 where
  win := winFacts0.to₀
  block_pos := block_pos0
  stage_whole := stage_whole0
  K := Fin 2
  osem := osem
  ho := ownSemFacts
  hbody c := (body_obligation m hT c).loose
  hwaits := Pipeline.hwaits_of_owed_zero _ _ _ _ L lv 0 fun _ _ => rfl
  pre c := iprop(StableHlo.held (c : Thread nD τ) ucRefs (StableHlo.after hostOps0 (V₀ m c)) ∗ R c)
  post c := iprop(StableHlo.held (c : Thread nD τ) two (V₁ m c) ∗ argsAt m c ∗ R c)
  X c := iprop((semVal ((c : Thread nD τ), SemLoc.dma (cell 0)) 0 ∗ semVal ((c : Thread nD τ), SemLoc.dma (cell 1)) 0) ∗ rds c (fK m c) (fV m c))
  Y c := iprop(rds c (fK m c) (fV m c) ∗ at' c main_arg3 fullShare (tb m c))
  Z c := iprop(at' c main_arg0 fullShare (m ((c : Thread nD τ).loc main_arg0)) ∗ at' c main_v0 fullShare (V m c main_v0))
  hentry c := by
    rw [show StableHlo.held (c : Thread nD τ) ucRefs (StableHlo.after hostOps0 (V₀ m c)) = unscopedBufs c (V m c) from (unscopedBufs_held c _).symm,
      ownSems0_eq]
    iintro ⟨⟨Hub, HO⟩, Hos, -⟩
    ihave H := (entry_split m c) $$ Hub
    icases H with ⟨Ha, H3, Hr, HZ⟩
    imodintro
    isplitl [Ha]; · iexact Ha
    isplitl [H3]
    · rw [show (Pipeline.prefHeld (pcfgs (F := F) 0).pre c (fun _ => fullShare) (adm m 0).1 : sProp 𝕄) = at' c main_arg3 fullShare (tb m c) from prefHeld_one c _, tb_eq]
      iexact H3
    isplitl [HO]
    · unfold Pipeline.Dat.owesAt Pipeline.owesWithin
      icases HO with ⟨%W, HO⟩; iexists W; isplitr; · ipureintro; exact fun _ _ => Or.inl trivial
      iexact HO
    isplitl [Hos Hr]
    · isplitl [Hos] <;> iassumption
    iexact HZ
  hin c := by
    rw [show (dats m 0 c).Φ 0 = Φn m c 0 from rfl,
      show (Pipeline.prefHeld (pcfgs (F := F) 0).pre c (fun _ => fullShare) (adm m 0).1 : sProp 𝕄) = at' c main_arg3 fullShare (tb m c) from prefHeld_one c _]
    iintro ⟨⟨Hos, Hr⟩, Ht, Hs⟩
    iapply (start_inv m c)
    isplitl [Hos]; · iexact Hos
    isplitl [Hr]; · iexact Hr
    isplitl [Ht] <;> iassumption
  hout c := by
    rw [ownSems0_eq, show (dats m 0 c).Φ (Fin.last (Pipeline.pin (pcfgs (F := F)) (adm m) 0).N) = Φn m c 16 from congrArg (Φn m c) N_0]
    exact end_inv m c
  hexit c := by
    rw [arrays_list, held_two, tb_eq]
    iintro ⟨⟨Hq, H1, H2, Ho⟩, HO, ⟨Hr, H3⟩, H0, Hv⟩
    imodintro
    isplitl [Ho Hv]
    · isplitl [Ho]
      · rw [show V₁ m c (Proc.devRef .tc main_call0_v1) = outA m c from Function.update_self ..]; iexact Ho
      · rw [show V₁ m c (Proc.devRef .tc main_v0) = V m c main_v0 from Function.update_of_ne (by decide) ..]; iexact Hv
    isplitl [Hq H1 H2 Hr H3 H0]
    · isplitl [H0]; · iexact H0
      isplitl [H1]
      · rw [show m ((c : Thread nD τ).loc main_arg1) = (dats m 0 c).arrAt 1 (Pipeline.pin (pcfgs (F := F)) (adm m) 0).N from
          (((dats m 0 c).arrAt_in 1 rfl _).trans (V_of_ne m c main_arg1 (by decide))).symm]
        iexact H1
      isplitl [H2]
      · rw [show m ((c : Thread nD τ).loc main_arg2) = (dats m 0 c).arrAt 2 (Pipeline.pin (pcfgs (F := F)) (adm m) 0).N from
          (((dats m 0 c).arrAt_in 2 rfl _).trans (V_of_ne m c main_arg2 (by decide))).symm]
        iexact H2
      iexact H3
    · unfold Pipeline.Dat.owesAt Pipeline.owesWithin
      icases HO with ⟨%W, -, HO⟩; iexists W; iexact HO

abbrev segs : List (Pipeline.Seg (pcfgs (F := F)) (adm m) (dats m) () defs₀ Variants.none L lv) := [.host (seg0 m), .region (reg0 m hT), .host (seg1 m)]

/-- The end: the result held, the arguments held. -/
abbrev Tn (c : Dev nD) : sProp 𝕄 := iprop(StableHlo.held (c : Thread nD τ) two (StableHlo.after hostOps1 (V₁ m c)) ∗ argsAt m c)

theorem end_state (c : Dev nD) : (iprop(StableHlo.held (c : Thread nD τ) two (StableHlo.after hostOps1 (V₁ m c)) ∗ argsAt m c ∗ R c) : sProp 𝕄) ⊢ iprop(Tn m c ∗ R c) := by
  iintro ⟨Hh, Ha, HR⟩
  isplitr [HR]
  · isplitl [Hh] <;> iassumption
  iexact HR

set_option backward.isDefEq.respectTransparency.types false in
/-- EVERY EXECUTION: it ends, the result is `outF`, the arguments are unchanged, every counter is at zero. -/
theorem run_main (hT : ∀ c b, InR (wd c (tb m c) b)) (ρ : Dev nD → PrngReg) : θ_run defs (onTc (τ := τ) (main (F := F))) ⟨m, fun _ => 0, ρ⟩ (fun r => (∀ c : Dev nD,
    r.2.mem ((c : Thread nD τ).loc main_v0) = outF m c
    ∧ r.2.mem ((c : Thread nD τ).loc main_arg0) = m ((c : Thread nD τ).loc main_arg0) ∧ r.2.mem ((c : Thread nD τ).loc main_arg1) = m ((c : Thread nD τ).loc main_arg1)
    ∧ r.2.mem ((c : Thread nD τ).loc main_arg2) = m ((c : Thread nD τ).loc main_arg2) ∧ r.2.mem ((c : Thread nD τ).loc main_arg3) = m ((c : Thread nD τ).loc main_arg3))
    ∧ r.2.sem = fun _ => 0) :=
  Pipeline.θ_run_regions_kit_sems (pcfgs (F := F)) (adm m) (dats m) () (cellOf_inj (adm m)) EP defs₀ Variants.none L lv m ρ main (segs m hT)
    (fun c Q => by rw [main_segs (adm m) (dats m) () Variants.none L lv (seg0 m) (seg1 m) (reg0 m hT) rfl rfl c])
    (by simp only [Pipeline.Seg.pipes_host, Pipeline.Seg.pipes_region, Pipeline.Seg.pipes_nil]; decide) (O₀ := 0) (hL := fun _ _ => rfl) (G := fun _ => iprop(emp)) (u₀ := u₀ m)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) ucRefs (V₀ m c) ∗ R c)) (Tₙ := Tn m)
    (hch := ⟨fun _ => .rfl, fun _ => .rfl, fun _ => .rfl, fun c => end_state m c⟩)
    (hinit := by
      refine Pipeline.initEach L lv fun c => ?_
      rw [show unscopedBufs c (fun b => m ((c : Thread nD τ).loc b)) = StableHlo.held (c : Thread nD τ) ucRefs (V₀ m c) from unscopedBufs_held c (V₀ m c)]
      iintro ⟨⟨Hh, -, HO, -, -, -⟩, -⟩
      imodintro
      isplitl [Hh]; · iexact Hh
      iexists ∅; iexact HO)
    (QY := fun c s => s.mem ((c : Thread nD τ).loc main_v0) = outF m c
      ∧ s.mem ((c : Thread nD τ).loc main_arg0) = m ((c : Thread nD τ).loc main_arg0) ∧ s.mem ((c : Thread nD τ).loc main_arg1) = m ((c : Thread nD τ).loc main_arg1)
      ∧ s.mem ((c : Thread nD τ).loc main_arg2) = m ((c : Thread nD τ).loc main_arg2) ∧ s.mem ((c : Thread nD τ).loc main_arg3) = m ((c : Thread nD τ).loc main_arg3))
    (hfin := fun c s' => by
      dsimp only [Tn]
      rw [held_two]
      iintro ⟨⟨⟨-, Hv⟩, H0, H1, H2, H3⟩, HSI⟩
      icombine HSI Hv gives %hv
      icombine HSI H0 gives %h0
      icombine HSI H1 gives %h1
      icombine HSI H2 gives %h2
      icombine HSI H3 gives %h3
      imodintro
      isplitr
      · ipureintro
        exact ⟨Buf.eq_of_forall_mem_univ hv, Buf.eq_of_forall_mem_univ h0, Buf.eq_of_forall_mem_univ h1, Buf.eq_of_forall_mem_univ h2, Buf.eq_of_forall_mem_univ h3⟩
      iexact HSI)
    (hQ := fun _ h hz => ⟨h, funext fun g => hz g (.inr (by revert g; decide))⟩)

end Cert.KernelIdeal.Gen

end
-- ==== Proof.IFrame.lean ====
/-
  The frame: under the precondition the table's words are in range, so every execution ends with the arguments unchanged.
-/
module

public import proofs.«01_k».proof.Proof.IRun
public import proofs.«01_k».proof.Defs
public import proofs.«01_k».proof.Proof.KPre

@[expose] public section

noncomputable section

namespace Cert.KernelIdeal.Gen

open Idealize.ShloMosaic Idealize.ShloMosaic.TcCoe Idealize.ShloMosaic.ValueIdx Idealize.SL.Sem

/-- The precondition, of the table's words. -/
theorem inR_of_pre (m : (ℓ : Loc nD τ sig) → Buf (Elt Ideal) ℓ) (h : Cert.Pre_KernelIdeal m) : ∀ c b, InR (wd c (tb m c) b) := by
  intro c b
  have e := Cert.ctx_range (h c) (ix1 b)
  unfold wd
  rw [tb_eq]
  exact e

/-- The frame. -/
theorem frame_i : Cert.quiescent_KernelIdeal := fun m ρ h =>
  (θ_run defs _ _).mono (fun _ h => ⟨fun c => (h.1 c).2, h.2⟩) (run_main m (inR_of_pre m h) ρ)

end Cert.KernelIdeal.Gen

end
-- ==== Proof.Row.lean ====
/-
  One row of attention over the extended reals: the running maximum, the running sum of exponentials and the running
  mixture, taken block by block, are those of the whole row.
-/
module

public import Idealize.ShloMosaic.PureOps.Ideal
public import Mathlib.Data.EReal.Inv
public import Mathlib.Algebra.BigOperators.Fin
public import Mathlib.Algebra.BigOperators.Intervals

@[expose] public section

noncomputable section

namespace Cert.Row

open Idealize.ShloMosaic

/-- The greatest of the first `n` scores, -/
def mx (s : ℕ → EReal) (n : ℕ) : EReal := (Finset.range n).sup s
/-- the sum of their exponentials, less it, -/
def ls (s : ℕ → EReal) (n : ℕ) : EReal := ∑ j ∈ Finset.range n, Ideal.exp (s j - mx s n)
/-- and the mixture of the values by them. -/
def ac (s v : ℕ → EReal) (n : ℕ) : EReal := ∑ j ∈ Finset.range n, Ideal.exp (s j - mx s n) * v j

/-- A fold of the maximum over a range of coordinates. -/
theorem fold_max (f : ℕ → EReal) (n : ℕ) : (Finset.univ.fold max ⊥ fun x : Fin n => f x.val) = (Finset.range n).sup f := by
  show Finset.univ.sup (fun x : Fin n => f x.val) = _
  refine le_antisymm (Finset.sup_le fun x _ => Finset.le_sup (f := f) (Finset.mem_range.2 x.isLt)) (Finset.sup_le fun j hj => ?_)
  exact Finset.le_sup (f := fun x : Fin n => f x.val) (Finset.mem_univ ⟨j, Finset.mem_range.1 hj⟩)

theorem mx_add (s : ℕ → EReal) (n k : ℕ) : mx s (n + k) = max (mx s n) ((Finset.range k).sup fun j => s (n + j)) := by
  unfold mx
  refine le_antisymm (Finset.sup_le fun j hj => ?_) (max_le (Finset.sup_le fun j hj => ?_) (Finset.sup_le fun j hj => ?_))
  · rw [Finset.mem_range] at hj
    rcases Nat.lt_or_ge j n with h | h
    · exact le_trans (Finset.le_sup (f := s) (Finset.mem_range.2 h)) (le_max_left _ _)
    · refine le_trans (le_of_eq ?_) (le_trans (Finset.le_sup (f := fun j => s (n + j)) (Finset.mem_range.2 (show j - n < k by omega))) (le_max_right _ _))
      rw [show n + (j - n) = j by omega]
  · rw [Finset.mem_range] at hj
    exact Finset.le_sup (f := s) (Finset.mem_range.2 (by omega))
  · rw [Finset.mem_range] at hj
    exact Finset.le_sup (f := s) (Finset.mem_range.2 (show n + j < n + k by omega))

theorem le_mx (s : ℕ → EReal) {n j : ℕ} (h : j < n) : s j ≤ mx s n := Finset.le_sup (f := s) (Finset.mem_range.2 h)

theorem exp_coe (r : ℝ) : Ideal.exp (r : EReal) = (Real.exp r : EReal) := rfl
theorem exp_bot : Ideal.exp ⊥ = 0 := rfl

theorem exp_nonneg (x : EReal) : 0 ≤ Ideal.exp x := by
  induction x with
  | bot => exact le_rfl
  | top => exact le_top
  | coe r => rw [exp_coe]; exact_mod_cast (Real.exp_pos r).le

/-- Two steps of a rising reference point are one. -/
theorem exp_mul {s m M : EReal} (h1 : s ≤ m) (h2 : m ≤ M) : Ideal.exp (s - m) * Ideal.exp (m - M) = Ideal.exp (s - M) := by
  induction M with
  | top => rw [EReal.sub_top, EReal.sub_top, exp_bot, mul_zero]
  | bot =>
    obtain rfl : m = ⊥ := le_bot_iff.1 h2
    rw [EReal.bot_sub, exp_bot, mul_zero]
    obtain rfl : s = ⊥ := le_bot_iff.1 h1
    rw [EReal.bot_sub, exp_bot]
  | coe M =>
    induction m with
    | top => exact absurd h2 (by simp)
    | bot =>
      obtain rfl : s = ⊥ := le_bot_iff.1 h1
      rw [EReal.bot_sub, EReal.bot_sub, exp_bot, mul_zero]
    | coe m =>
      induction s with
      | top => exact absurd h1 (by simp)
      | bot => rw [EReal.bot_sub, EReal.bot_sub, exp_bot, zero_mul]
      | coe s =>
        rw [← EReal.coe_sub, ← EReal.coe_sub, ← EReal.coe_sub, exp_coe, exp_coe, exp_coe, ← EReal.coe_mul, ← Real.exp_add, sub_add_sub_cancel]

theorem exp_ne_top {m M : EReal} (h : m ≤ M) : Ideal.exp (m - M) ≠ ⊤ := by
  induction M with
  | top => rw [EReal.sub_top, exp_bot]; exact EReal.zero_ne_top
  | bot => rw [le_bot_iff.1 h, EReal.bot_sub, exp_bot]; exact EReal.zero_ne_top
  | coe M =>
    induction m with
    | top => exact absurd h (by simp)
    | bot => rw [EReal.bot_sub, exp_bot]; exact EReal.zero_ne_top
    | coe m => rw [← EReal.coe_sub, exp_coe]; exact EReal.coe_ne_top _

/-- A factor that is neither negative nor infinite goes into a sum. -/
theorem sum_mul {ι : Type} (t : Finset ι) (f : ι → EReal) {c : EReal} (h0 : 0 ≤ c) (h1 : c ≠ ⊤) : (∑ i ∈ t, f i) * c = ∑ i ∈ t, f i * c := by
  classical
  induction t using Finset.induction_on with
  | empty => rw [Finset.sum_empty, Finset.sum_empty, zero_mul]
  | insert a t ha ih => rw [Finset.sum_insert ha, Finset.sum_insert ha, EReal.right_distrib_of_nonneg_of_ne_top h0 h1, ih]

/-- A further block, of the sum; -/
theorem ls_add (s : ℕ → EReal) (n k : ℕ) :
    ls s (n + k) = ls s n * Ideal.exp (mx s n - mx s (n + k)) + ∑ j ∈ Finset.range k, Ideal.exp (s (n + j) - mx s (n + k)) := by
  have hm : mx s n ≤ mx s (n + k) := by rw [mx_add]; exact le_max_left _ _
  unfold ls
  rw [Finset.sum_range_add, sum_mul _ _ (exp_nonneg _) (exp_ne_top hm)]
  refine congrArg (· + _) (Finset.sum_congr rfl fun j hj => ?_)
  rw [exp_mul (le_mx s (Finset.mem_range.1 hj)) hm]

/-- of the mixture. -/
theorem ac_add (s v : ℕ → EReal) (n k : ℕ) :
    ac s v (n + k) = ac s v n * Ideal.exp (mx s n - mx s (n + k)) + ∑ j ∈ Finset.range k, Ideal.exp (s (n + j) - mx s (n + k)) * v (n + j) := by
  have hm : mx s n ≤ mx s (n + k) := by rw [mx_add]; exact le_max_left _ _
  unfold ac
  rw [Finset.sum_range_add, sum_mul _ _ (exp_nonneg _) (exp_ne_top hm)]
  refine congrArg (· + _) (Finset.sum_congr rfl fun j hj => ?_)
  rw [mul_right_comm, exp_mul (le_mx s (Finset.mem_range.1 hj)) hm]

/-- Positions that are masked add nothing: to the maximum, -/
theorem mx_of_bot (s : ℕ → EReal) (n k : ℕ) (h : ∀ j, n ≤ j → s j = ⊥) : mx s (n + k) = mx s n := by
  rw [mx_add]
  refine max_eq_left (Finset.sup_le fun j _ => ?_)
  rw [h _ (by omega)]; exact bot_le
/-- to the sum, -/
theorem ls_of_bot (s : ℕ → EReal) (n k : ℕ) (h : ∀ j, n ≤ j → s j = ⊥) : ls s (n + k) = ls s n := by
  unfold ls
  rw [mx_of_bot s n k h, Finset.sum_range_add, Finset.sum_eq_zero (s := Finset.range k), add_zero]
  intro j _
  rw [h _ (by omega), EReal.bot_sub, exp_bot]
/-- to the mixture. -/
theorem ac_of_bot (s v : ℕ → EReal) (n k : ℕ) (h : ∀ j, n ≤ j → s j = ⊥) : ac s v (n + k) = ac s v n := by
  unfold ac
  rw [mx_of_bot s n k h, Finset.sum_range_add, Finset.sum_eq_zero (s := Finset.range k), add_zero]
  intro j _
  rw [h _ (by omega), EReal.bot_sub, exp_bot, zero_mul]

theorem ofBits_ninf : Ideal.ofBits .f32 0xFF800000#32 = ⊥ := by simp [Ideal.ofBits, Ideal.ieee]

/-- A word below another, as numbers. -/
theorem slt_ofNat {w : BitVec 32} (hw : w.toNat ≤ 2048) (j : ℕ) (hj : j < 2048) : IntOp.cmpi CmpIPredicate.slt (BitVec.ofNat 32 j) w = if j < w.toNat then 1#1 else 0#1 := by
  have e : (BitVec.ofNat 32 j).slt w = decide (j < w.toNat) := by
    rw [BitVec.slt, decide_eq_decide]
    have h1 : (BitVec.ofNat 32 j).toInt = j := by rw [BitVec.toInt, BitVec.toNat_ofNat]; omega
    have h2 : w.toInt = w.toNat := by rw [BitVec.toInt]; omega
    rw [h1, h2]; omega
  show BitVec.ofBool ((BitVec.ofNat 32 j).slt w) = _
  rw [e]
  by_cases h : j < w.toNat
  · rw [if_pos h, decide_eq_true h]; rfl
  · rw [if_neg h, decide_eq_false h]; rfl

/-- A head's cache as a table of rows; behind the cache's length, zero. -/
def rows (x : Fin 2048 → Fin 128 → EReal) (j : ℕ) (d : Fin 128) : EReal := if h : j < 2048 then x ⟨j, h⟩ d else 0

theorem rows_val (x : Fin 2048 → Fin 128 → EReal) (j : Fin 2048) (d : Fin 128) : rows x j.val d = x j d := dif_pos j.isLt

/-- A real number. -/
def IsReal (x : EReal) : Prop := ∃ r : ℝ, x = r

theorem IsReal.sum {ι : Type} (t : Finset ι) (f : ι → EReal) (h : ∀ i ∈ t, IsReal (f i)) : IsReal (∑ i ∈ t, f i) := by
  classical
  induction t using Finset.induction_on with
  | empty => exact ⟨0, by simp⟩
  | insert a t ha ih =>
    obtain ⟨x, hx⟩ := h a (Finset.mem_insert_self _ _)
    obtain ⟨y, hy⟩ := ih fun i hi => h i (Finset.mem_insert_of_mem hi)
    exact ⟨x + y, by rw [Finset.sum_insert ha, hx, hy, EReal.coe_add]⟩

theorem IsReal.mul {x y : EReal} (hx : IsReal x) (hy : IsReal y) : IsReal (x * y) := by
  obtain ⟨a, rfl⟩ := hx
  obtain ⟨b, rfl⟩ := hy
  exact ⟨a * b, by rw [EReal.coe_mul]⟩

/-- A row whose first `n` scores are reals and whose others are masked. -/
structure Live (s : ℕ → EReal) (n : ℕ) : Prop where
  pos : 0 < n
  fin : ∀ j, j < n → IsReal (s j)
  bot : ∀ j, n ≤ j → s j = ⊥

variable {s : ℕ → EReal} {n : ℕ}

/-- Its greatest score is one of them; -/
theorem Live.top (h : Live s n) : ∃ j, j < n ∧ mx s n = s j := by
  obtain ⟨j, hj, e⟩ := Finset.exists_mem_eq_sup (Finset.range n) ⟨0, Finset.mem_range.2 h.pos⟩ s
  exact ⟨j, Finset.mem_range.1 hj, e⟩

/-- each exponential is a real; -/
theorem Live.exp (h : Live s n) (j : ℕ) : IsReal (Ideal.exp (s j - mx s n)) := by
  obtain ⟨i, hi, e⟩ := h.top
  obtain ⟨M, hM⟩ := h.fin i hi
  rw [e, hM]
  rcases Nat.lt_or_ge j n with hj | hj
  · obtain ⟨r, hr⟩ := h.fin j hj
    exact ⟨Real.exp (r - M), by rw [hr, ← EReal.coe_sub, exp_coe]⟩
  · exact ⟨0, by rw [h.bot j hj, EReal.bot_sub, exp_bot]; rfl⟩

/-- and their sum is a positive real. -/
theorem Live.ls (h : Live s n) : ∃ r : ℝ, 0 < r ∧ ls s n = r := by
  obtain ⟨r, hr⟩ := IsReal.sum (Finset.range n) _ fun j _ => h.exp j
  refine ⟨r, ?_, hr⟩
  obtain ⟨i, hi, e⟩ := h.top
  obtain ⟨M, hM⟩ := h.fin i hi
  have h1 : (1 : EReal) ≤ (r : EReal) := by
    rw [← hr]
    refine le_trans (le_of_eq ?_) (Finset.single_le_sum (f := fun j => Ideal.exp (s j - mx s n)) (fun j _ => exp_nonneg _) (Finset.mem_range.2 hi))
    show 1 = Ideal.exp (s i - mx s n)
    rw [e, hM, ← EReal.coe_sub, exp_coe, sub_self, Real.exp_zero, EReal.coe_one]
  have h2 : (1 : ℝ) ≤ r := by exact_mod_cast h1
  linarith

/-- The scores of a row: the query against each key, the first `n` of them. -/
def sc (q : Fin 128 → EReal) (K : ℕ → Fin 128 → EReal) (n j : ℕ) : EReal := if j < n then ∑ d, q d * K j d else ⊥

/-- The scores of reals are live. -/
theorem sc_live {q : Fin 128 → EReal} {K : ℕ → Fin 128 → EReal} {n : ℕ} (hn : 0 < n) (hq : ∀ d, IsReal (q d)) (hK : ∀ j d, IsReal (K j d)) : Live (sc q K n) n where
  pos := hn
  fin j hj := by
    rw [sc, if_pos hj]
    exact IsReal.sum _ _ fun d _ => (hq d).mul (hK j d)
  bot j hj := if_neg (by omega)

/-- The inverse of the root of 128. -/
def rs : EReal := (((Real.sqrt 128)⁻¹ : ℝ) : EReal)

theorem rs_nonneg : 0 ≤ rs := by unfold rs; exact_mod_cast (by positivity : (0 : ℝ) ≤ (Real.sqrt 128)⁻¹)

/-- A product scaled is the product with a scaled query. -/
theorem sum_rs (q : Fin 128 → EReal) (k : Fin 128 → EReal) : (∑ d, q d * k d) * rs = ∑ d, (q d * rs) * k d := by
  rw [sum_mul _ _ rs_nonneg (EReal.coe_ne_top _)]
  exact Finset.sum_congr rfl fun d _ => mul_right_comm _ _ _

/-- ATTENTION of a row of scores over `N` positions: each exponential is divided by their sum and weighs its value. -/
def att (s v : ℕ → EReal) (N : ℕ) : EReal := ∑ j ∈ Finset.range N, Ideal.div (Ideal.exp (s j - mx s N)) (ls s N) * v j

/-- The mixture divided by the sum is the row's attention, over any longer row too. -/
theorem Live.att (h : Live s n) (v : ℕ → EReal) (k l : ℕ) : Ideal.div (ac s v (n + k)) (Row.ls s (n + k)) = Row.att s v (n + l) := by
  obtain ⟨r, hr, e⟩ := h.ls
  unfold Row.att
  rw [ac_of_bot s v n k h.bot, ls_of_bot s n k h.bot, mx_of_bot s n l h.bot, ls_of_bot s n l h.bot, e, Ideal.div_coe hr.ne']
  have hp : (0 : EReal) ≤ ((1 / r : ℝ) : EReal) := by exact_mod_cast (by positivity : (0 : ℝ) ≤ 1 / r)
  rw [← ac_of_bot s v n l h.bot]
  unfold ac
  rw [mx_of_bot s n l h.bot, sum_mul _ _ hp (EReal.coe_ne_top _)]
  refine Finset.sum_congr rfl fun j _ => ?_
  rw [Ideal.div_coe hr.ne', mul_right_comm]

/-- The attention of reals is a real. -/
theorem Live.att_fin (h : Live s n) (v : ℕ → EReal) (hv : ∀ j, IsReal (v j)) (l : ℕ) : IsReal (Row.att s v (n + l)) := by
  obtain ⟨r, hr, e⟩ := h.ls
  unfold Row.att
  rw [mx_of_bot s n l h.bot, ls_of_bot s n l h.bot, e]
  refine IsReal.sum _ _ fun j _ => IsReal.mul ?_ (hv j)
  rw [Ideal.div_coe hr.ne']
  exact IsReal.mul (h.exp j) ⟨_, rfl⟩

/-- A layer of one head: the attention of the scaled query's scores. -/
def layer (q : Fin 128 → EReal) (K V : ℕ → Fin 128 → EReal) (n : ℕ) (d : Fin 128) : EReal :=
  att (sc (fun d => q d * rs) K n) (fun j => V j d) 2048

theorem layer_real {q : Fin 128 → EReal} {K V : ℕ → Fin 128 → EReal} {n : ℕ} (h0 : 0 < n) (hn : n ≤ 2048) (hq : ∀ d, IsReal (q d)) (hK : ∀ j d, IsReal (K j d)) (hV : ∀ j d, IsReal (V j d))
    (d : Fin 128) : IsReal (layer q K V n d) := by
  have h := (sc_live h0 (fun d => (hq d).mul ⟨_, rfl⟩) hK : Live (sc (fun d => q d * rs) K n) n).att_fin (fun j => V j d) (fun j => hV j d) (2048 - n)
  rw [show n + (2048 - n) = 2048 by omega] at h
  exact h

/-- A layer is what its running values leave. -/
theorem layer_eq {q : Fin 128 → EReal} {K : ℕ → Fin 128 → EReal} {n N : ℕ} (V : ℕ → Fin 128 → EReal) (h0 : 0 < n) (hn : n ≤ 2048) (hN : n ≤ N) (hq : ∀ d, IsReal (q d)) (hK : ∀ j d, IsReal (K j d))
    (d : Fin 128) : Ideal.div (ac (sc (fun d => q d * rs) K n) (fun j => V j d) N) (ls (sc (fun d => q d * rs) K n) N) = layer q K V n d := by
  have h := (sc_live h0 (fun d => (hq d).mul ⟨_, rfl⟩) hK : Live (sc (fun d => q d * rs) K n) n).att (fun j => V j d) (N - n) (2048 - n)
  rw [show n + (2048 - n) = 2048 by omega, show n + (N - n) = N by omega] at h
  exact h

end Cert.Row

end
-- ==== Proof.FPre.lean ====
/-
  The precondition of the value claim read: every number of the query and of the caches is real, and every context
  length is from 1024 to 2048.
-/
module

public import proofs.«01_k».proof.Defs
public import proofs.«01_k».proof.Proof.Row
public import Idealize.ShloMosaic.Lib.ReduceAll

@[expose] public section

noncomputable section

namespace Cert

open Idealize.ShloMosaic

/-- The precondition's shape relations. -/
instance facts_fin : Cert.Pre_finite_in_range.Facts := ⟨by decide, by decide, by decide, by decide, by decide, by decide⟩

/-- A number whose magnitude is below infinity is real. -/
theorem real_of_abs {x : EReal} (h : Ideal.cmp .olt (max x (-x)) (Ideal.ofBits .f32 0x7F800000#32) = 1#1) : Row.IsReal x := by
  rw [show Ideal.ofBits .f32 0x7F800000#32 = ⊤ by simp [Ideal.ofBits, Ideal.ieee]] at h
  induction x with
  | bot => simp [Ideal.cmp] at h
  | top => simp [Ideal.cmp] at h
  | coe r => exact ⟨r, rfl⟩

/-- Where the printed precondition is all ones, each number is real, and each length is in range. -/
theorem fin_range {a0 : FVec Ideal Pre_finite_in_range.S8x32x128 .f32} {a1 a2 : FVec Ideal Pre_finite_in_range.S8x2x8x2048x128 .f32}
    {a3 : IVec Pre_finite_in_range.S8 32} (h : Pre_finite_in_range.fn (F := Ideal) a0 a1 a2 a3 = fun _ => 1#1) :
    (∀ i, Row.IsReal (a0 i)) ∧ (∀ i, Row.IsReal (a1 i)) ∧ (∀ i, Row.IsReal (a2 i)) ∧ ∀ y, 1024 ≤ (a3 y).toNat ∧ (a3 y).toNat ≤ 2048 := by
  have e (y : Pre_finite_in_range.S8.Idx) := congrFun h y
  simp only [Pre_finite_in_range.fn, Pre_finite_in_range.fn_part1, andi, cmpi, broadcastInDim, constantI, IntOp.andi_eq_one] at e
  haveI : Subsingleton Pre_finite_in_range.S_.Idx := ⟨fun a b => funext fun i => i.elim0⟩
  have y0 : Pre_finite_in_range.S8.Idx := fun a => ⟨0, by fin_cases a; decide⟩
  obtain ⟨⟨⟨⟨h0, h1⟩, h2⟩, -⟩, -⟩ := e y0
  refine ⟨fun i => real_of_abs (Host.reduce_andi_all _ _ _ _ _ h0 i), fun i => real_of_abs (Host.reduce_andi_all _ _ _ _ _ h1 i), fun i => real_of_abs (Host.reduce_andi_all _ _ _ _ _ h2 i), fun y => ?_⟩
  obtain ⟨⟨-, hge⟩, hle⟩ := e y
  have one (p : Bool) : (BitVec.ofBool p = 1#1) ↔ p = true := by cases p <;> decide
  simp only [IntOp.cmpi, one, BitVec.sle, decide_eq_true_eq, BitVec.toInt, BitVec.toNat_ofNat] at hge hle
  omega

end Cert

end
-- ==== Proof.IVal.lean ====
/-
  The kernel's payloads at an index, as scalars.
-/
module

public import proofs.«01_k».proof.Proof.IRoot
public import proofs.«01_k».proof.Proof.Row
public import Idealize.ShloMosaic.Lib.Pointwise

@[expose] public section

set_option maxRecDepth 16384

noncomputable section

namespace Cert.KernelIdeal.Gen

open Idealize.ShloMosaic Idealize.ShloMosaic.Pointwise

/-- The masked scores of a block of 128 positions that starts at `n`. -/
def msc (n w : BitVec 32) (q : FVec Ideal S8x4x128 .f32) (x : FVec Ideal S1x8x128x128 .f32) : FVec Ideal S8x4x128 .f32 :=
  select (cmpi .slt (addi (broadcast S8x4x128 n) (iota .tc S8x4x128 32 [2] iota_S8x4x128_d2_w32)) (broadcast S8x4x128 w))
    (matmul dot_S8x4x128_S8x128x128_S8x4x128_2_2_1_1_0_0 none q (shapeCast S8x128x128 x shapeCasts_S1x8x128x128_S8x128x128 : FVec Ideal S8x128x128 .f32) (constant S8x4x128 .f32 0x00000000#32))
    (broadcast S8x4x128 (Named.named κ "mask" (φ := .f32) 0xF149F2CA#32))

theorem msc_at (n w : BitVec 32) (q : FVec Ideal S8x4x128 .f32) (x : FVec Ideal S1x8x128x128 .f32) (g : Fin 8) (r : Fin 4) (j : Fin 128) :
    msc n w q x (ix3 g r j) = Scalar.select (IntOp.cmpi CmpIPredicate.slt (IntOp.addi n (BitVec.ofNat 32 j.val)) w) (∑ d, q (ix3 g r d) * x (ix4 0 g j d)) (Named.named κ "mask" 0xF149F2CA#32) := by
  pointwise [msc]
theorem p11_eq (w : BitVec 32) (q : FVec Ideal S8x4x128 .f32) (c0 c1 : BitVec 32) (k : Fin (k0_t7_loop w).trips) (x : FVec Ideal S1x8x128x128 .f32) : k0_pay11 (F := Ideal) w q c0 c1 k x = msc (Scalar.addi 1024#32 (Scalar.muli (Scf.iv c0 c1 k) 128#32)) w q x := rfl

theorem mask_eq : (Named.named κ "mask" 0xF149F2CA#32 : Ideal .f32) = ⊥ := IdealRules.named_const.ideal_named_scalar _ _ _ _ rfl
theorem scale_eq : (Named.named κ "scale" 0x3DB504F3#32 : Ideal .f32) = Row.rs := IdealRules.named_const.ideal_named_scalar _ _ _ _ rfl

theorem p24 (w : BitVec 32) (q : FVec Ideal S8x4x128 .f32) (x : FVec Ideal S1x1x8x1024x128 .f32) (g : Fin 8) (r : Fin 4) (j : Fin 1024) :
    k0_pay24 (F := Ideal) w q x (ix3 g r j) = Scalar.select (IntOp.cmpi CmpIPredicate.slt (BitVec.ofNat 32 j.val) w) (∑ d, q (ix3 g r d) * x (ix5 0 0 g j d)) (Named.named κ "mask" 0xF149F2CA#32) := by
  pointwise [k0_pay24]
theorem p25 (w : BitVec 32) (q : FVec Ideal S8x4x128 .f32) (x : FVec Ideal S1x1x8x1024x128 .f32) (g : Fin 8) (r : Fin 4) (z : Fin 1) :
    k0_pay25 (F := Ideal) w q x (ix3 g r z) = Finset.univ.fold max (Ideal.ofBits .f32 0xFF800000#32) fun j => k0_pay24 (F := Ideal) w q x (ix3 g r j) := by
  pointwise [k0_pay25]
theorem p26 (w : BitVec 32) (q : FVec Ideal S8x4x128 .f32) (x : FVec Ideal S1x1x8x1024x128 .f32) (g : Fin 8) (r : Fin 4) (j : Fin 1024) : k0_pay26 (F := Ideal) w q x (ix3 g r j) = k0_pay25 (F := Ideal) w q x (ix3 g r 0) := by
  pointwise [k0_pay26]
theorem p28 (x : FVec Ideal S8x4x1 .f32) (g : Fin 8) (r : Fin 4) (j : Fin 128) : k0_pay28 (F := Ideal) x (ix3 g r j) = x (ix3 g r 0) := by
  pointwise [k0_pay28]
theorem p29 (x y : FVec Ideal S8x4x1024 .f32) (g : Fin 8) (r : Fin 4) (j : Fin 128) : k0_pay29 (F := Ideal) x y (ix3 g r j) = ∑ j, Ideal.exp (x (ix3 g r j) - y (ix3 g r j)) := by
  pointwise [k0_pay29, k0_pay27]
theorem p30 (v : FVec Ideal S8x1024x128 .f32) (x y : FVec Ideal S8x4x1024 .f32) (g : Fin 8) (r : Fin 4) (d : Fin 128) : k0_pay30 (F := Ideal) v x y (ix3 g r d) = ∑ j, Ideal.exp (x (ix3 g r j) - y (ix3 g r j)) * v (ix3 g j d) := by
  pointwise [k0_pay30, k0_pay27]
theorem p23 (v : FVec Ideal S1x1x8x1024x128 .f32) (g : Fin 8) (j : Fin 1024) (d : Fin 128) : k0_pay23 (F := Ideal) v (ix3 g j d) = v (ix5 0 0 g j d) := by
  pointwise [k0_pay23]
theorem p22 (v : FVec Ideal S1x8x4x128 .f32) (g : Fin 8) (r : Fin 4) (d : Fin 128) : k0_pay22 (F := Ideal) v (ix3 g r d) = v (ix4 0 g r d) * Row.rs := by
  pointwise [k0_pay22]
  rw [scale_eq]
theorem p9 (v l : FVec Ideal S8x4x128 .f32) (g : Fin 8) (r : Fin 4) (d : Fin 128) : k0_pay9 (F := Ideal) v l (ix3 g r d) = Ideal.div (v (ix3 g r d)) (l (ix3 g r d)) * Row.rs := by
  pointwise [k0_pay9, k0_pay7]
  rw [scale_eq]
theorem p8 (v l : FVec Ideal S8x4x128 .f32) (z : Fin 1) (g : Fin 8) (r : Fin 4) (d : Fin 128) : k0_pay8 (F := Ideal) v l (ix4 z g r d) = Ideal.div (v (ix3 g r d)) (l (ix3 g r d)) := by
  pointwise [k0_pay8, k0_pay7]
theorem p10 (v : FVec Ideal S1x8x128x128 .f32) (g : Fin 8) (j : Fin 128) (d : Fin 128) : k0_pay10 (F := Ideal) v (ix3 g j d) = v (ix4 0 g j d) := by
  pointwise [k0_pay10]
theorem p12 (w : BitVec 32) (q : FVec Ideal S8x4x128 .f32) (k : Fin (k0_t7_loop w).trips) (x : FVec Ideal S1x8x128x128 .f32) (m : FVec Ideal S8x4x128 .f32) (g : Fin 8) (r : Fin 4) (j : Fin 128) :
    k0_pay12 (F := Ideal) w q 0#32 1#32 k x m (ix3 g r j) = max (m (ix3 g r j)) (Finset.univ.fold max (Ideal.ofBits .f32 0xFF800000#32) fun j => k0_pay11 (F := Ideal) w q 0#32 1#32 k x (ix3 g r j)) := by
  pointwise [k0_pay12]
theorem p13 (w : BitVec 32) (q : FVec Ideal S8x4x128 .f32) (k : Fin (k0_t7_loop w).trips) (x : FVec Ideal S1x8x128x128 .f32) (m : FVec Ideal S8x4x128 .f32) (g : Fin 8) (r : Fin 4) (j : Fin 128) :
    k0_pay13 (F := Ideal) w q 0#32 1#32 k x m (ix3 g r j) = Ideal.exp (m (ix3 g r j) - k0_pay12 (F := Ideal) w q 0#32 1#32 k x m (ix3 g r j)) := by
  pointwise [k0_pay13]
theorem p14 (w : BitVec 32) (q : FVec Ideal S8x4x128 .f32) (k : Fin (k0_t7_loop w).trips) (x : FVec Ideal S1x8x128x128 .f32) (m : FVec Ideal S8x4x128 .f32) (g : Fin 8) (r : Fin 4) (j : Fin 128) :
    k0_pay14 (F := Ideal) w q 0#32 1#32 k x m (ix3 g r j) = Ideal.exp (k0_pay11 (F := Ideal) w q 0#32 1#32 k x (ix3 g r j) - k0_pay12 (F := Ideal) w q 0#32 1#32 k x m (ix3 g r 0)) := by
  pointwise [k0_pay14]
theorem p15 (w : BitVec 32) (q : FVec Ideal S8x4x128 .f32) (k : Fin (k0_t7_loop w).trips) (x : FVec Ideal S1x8x128x128 .f32) (m l : FVec Ideal S8x4x128 .f32) (g : Fin 8) (r : Fin 4) (j : Fin 128) :
    k0_pay15 (F := Ideal) w q 0#32 1#32 k x m l (ix3 g r j) = l (ix3 g r j) * k0_pay13 (F := Ideal) w q 0#32 1#32 k x m (ix3 g r j) + ∑ j, k0_pay14 (F := Ideal) w q 0#32 1#32 k x m (ix3 g r j) := by
  pointwise [k0_pay15]
theorem p1 (l : FVec Ideal S8x4x128 .f32) (g : Fin 8) (r : Fin 4) (j : Fin 128) : k0_pay1 (F := Ideal) l (ix3 g r j) = l (ix3 g r j) := by
  pointwise [k0_pay1]
theorem p3 (l : FVec Ideal S8x4x128 .f32) (g : Fin 8) (r : Fin 4) (j : Fin 128) : k0_pay3 (F := Ideal) l (ix3 g r j) = l (ix3 g r j) := by
  pointwise [k0_pay3]
theorem p2 (v : FVec Ideal S8x128x128 .f32) (a p acc : FVec Ideal S8x4x128 .f32) (g : Fin 8) (r : Fin 4) (d : Fin 128) :
    k0_pay2 (F := Ideal) v a p acc (ix3 g r d) = acc (ix3 g r d) * a (ix3 g r d) + ∑ j, p (ix3 g r j) * v (ix3 g j d) := by
  pointwise [k0_pay2]

/-! ## The running values -/

/-- The running values hold a row's after `N` positions. -/
def Runs (s : ℕ → EReal) (V : ℕ → Fin 128 → EReal) (g : Fin 8) (r : Fin 4) (st : FVec Ideal S8x4x128 .f32 × FVec Ideal S8x4x128 .f32 × FVec Ideal S8x4x128 .f32) (N : ℕ) : Prop :=
  ∀ d, st.1 (ix3 g r d) = Row.mx s N ∧ st.2.1 (ix3 g r d) = Row.ls s N ∧ st.2.2 (ix3 g r d) = Row.ac s (fun j => V j d) N

theorem bulk_score {w : BitVec 32} (hw : InR w) (q : FVec Ideal S8x4x128 .f32) (x : FVec Ideal S1x1x8x1024x128 .f32) (g : Fin 8) (r : Fin 4) (K : ℕ → Fin 128 → EReal)
    (hK : ∀ (j : Fin 1024) (d : Fin 128), x (ix5 0 0 g j d) = K j.val d) (j : Fin 1024) : k0_pay24 (F := Ideal) w q x (ix3 g r j) = Row.sc (fun d => q (ix3 g r d)) K w.toNat j.val := by
  rw [p24, Row.slt_ofNat hw.2 _ (by omega), mask_eq, Row.sc]
  simp only [hK]
  by_cases hj : j.val < w.toNat
  · rw [if_pos hj, if_pos hj]; rfl
  · rw [if_neg hj, if_neg hj]; rfl

theorem tail_word {k j : ℕ} (hk : k < 8) (hj : j < 128) : IntOp.addi (Scalar.addi 1024#32 (Scalar.muli (Scf.iv 0#32 1#32 k) 128#32)) (BitVec.ofNat 32 j) = BitVec.ofNat 32 (1024 + 128 * k + j) := by
  apply BitVec.eq_of_toNat_eq
  have h := w98 ⟨k, hk⟩
  rw [iv_eq]
  show (_ + _ : BitVec 32).toNat = _
  rw [BitVec.toNat_add, h, BitVec.toNat_ofNat, BitVec.toNat_ofNat]
  show (1024 + 128 * k + _) % _ = _
  omega

theorem tail_score {w : BitVec 32} (hw : InR w) (q : FVec Ideal S8x4x128 .f32) (k : Fin (k0_t7_loop w).trips) (x : FVec Ideal S1x8x128x128 .f32) (g : Fin 8) (r : Fin 4) (K : ℕ → Fin 128 → EReal)
    (hK : ∀ (j d : Fin 128), x (ix4 0 g j d) = K (1024 + 128 * k.val + j.val) d) (j : Fin 128) :
    k0_pay11 (F := Ideal) w q 0#32 1#32 k x (ix3 g r j) = Row.sc (fun d => q (ix3 g r d)) K w.toNat (1024 + 128 * k.val + j.val) := by
  have hk : k.val < 8 := lt_of_lt_of_le (lt_of_lt_of_eq k.isLt (trips7 hw)) (nc_le hw)
  rw [p11_eq, msc_at, tail_word hk j.isLt, Row.slt_ofNat hw.2 _ (by omega), mask_eq, Row.sc]
  simp only [hK]
  by_cases hj : 1024 + 128 * k.val + j.val < w.toNat
  · rw [if_pos hj, if_pos hj]; rfl
  · rw [if_neg hj, if_neg hj]; rfl

/-- The bulk leaves a row's values after 1024 positions. -/
theorem first3_runs {w : BitVec 32} (hw : InR w) (q : FVec Ideal S8x4x128 .f32) (x y : FVec Ideal S1x1x8x1024x128 .f32) (g : Fin 8) (r : Fin 4) (K V : ℕ → Fin 128 → EReal)
    (hK : ∀ (j : Fin 1024) (d : Fin 128), x (ix5 0 0 g j d) = K j.val d) (hV : ∀ (j : Fin 1024) (d : Fin 128), y (ix5 0 0 g j d) = V j.val d) :
    Runs (Row.sc (fun d => q (ix3 g r d)) K w.toNat) V g r (first3 (F := Ideal) w q x y) 1024 := by
  have hm : k0_pay25 (F := Ideal) w q x (ix3 g r 0) = Row.mx (Row.sc (fun d => q (ix3 g r d)) K w.toNat) 1024 := by
    rw [p25, Row.ofBits_ninf]
    simp only [bulk_score hw q x g r K hK]
    unfold Row.mx; rw [← Row.fold_max]
  intro d
  unfold first3
  dsimp only
  rw [p28, p29, p30]
  refine ⟨hm, ?_, ?_⟩
  · simp only [p26, hm, bulk_score hw q x g r K hK]
    unfold Row.ls; rw [Finset.sum_range]
  · simp only [p26, hm, bulk_score hw q x g r K hK, p23, hV]
    unfold Row.ac; rw [Finset.sum_range]

/-- A block of 128 positions takes a row's values on. -/
theorem step_runs {w : BitVec 32} (hw : InR w) (q : FVec Ideal S8x4x128 .f32) (k : Fin (k0_t7_loop w).trips) (x y : FVec Ideal S1x8x128x128 .f32) (g : Fin 8) (r : Fin 4) (K V : ℕ → Fin 128 → EReal)
    (hK : ∀ (j d : Fin 128), x (ix4 0 g j d) = K (1024 + 128 * k.val + j.val) d) (hV : ∀ (j d : Fin 128), y (ix4 0 g j d) = V (1024 + 128 * k.val + j.val) d)
    (st : FVec Ideal S8x4x128 .f32 × FVec Ideal S8x4x128 .f32 × FVec Ideal S8x4x128 .f32) (h : Runs (Row.sc (fun d => q (ix3 g r d)) K w.toNat) V g r st (1024 + 128 * k.val)) :
    Runs (Row.sc (fun d => q (ix3 g r d)) K w.toNat) V g r (step (F := Ideal) w q k x y st) (1024 + 128 * k.val + 128) := by
  have hm : ∀ d, k0_pay12 (F := Ideal) w q 0#32 1#32 k x st.1 (ix3 g r d) = Row.mx (Row.sc (fun d => q (ix3 g r d)) K w.toNat) (1024 + 128 * k.val + 128) := by
    intro d
    rw [p12, Row.ofBits_ninf, (h d).1, Row.mx_add _ (1024 + 128 * k.val)]
    simp only [tail_score hw q k x g r K hK]
    rw [← Row.fold_max]
  intro d
  refine ⟨(p3 _ _ _ _).trans (hm d), (p1 _ _ _ _).trans ((p15 _ _ _ _ _ _ _ _ _).trans ?_), (p2 _ _ _ _ _ _ _).trans ?_⟩
  · rw [Row.ls_add, Finset.sum_range, p13, (h d).2.1, (h d).1, hm]
    simp only [p14, hm, tail_score hw q k x g r K hK]
  · rw [Row.ac_add, Finset.sum_range, p13, (h d).2.2, (h d).1, hm]
    simp only [p14, hm, tail_score hw q k x g r K hK, p10, hV]

/-- So do all the blocks. -/
theorem iter_runs {w : BitVec 32} (hw : InR w) (q : FVec Ideal S8x4x128 .f32) (x y : Fin 8 → FVec Ideal S1x8x128x128 .f32) (g : Fin 8) (r : Fin 4) (K V : ℕ → Fin 128 → EReal)
    (hK : ∀ (k : Fin 8) (j d : Fin 128), x k (ix4 0 g j d) = K (1024 + 128 * k.val + j.val) d) (hV : ∀ (k : Fin 8) (j d : Fin 128), y k (ix4 0 g j d) = V (1024 + 128 * k.val + j.val) d)
    (st : FVec Ideal S8x4x128 .f32 × FVec Ideal S8x4x128 .f32 × FVec Ideal S8x4x128 .f32) (h : Runs (Row.sc (fun d => q (ix3 g r d)) K w.toNat) V g r st 1024) :
    ∀ n, n ≤ nc w → Runs (Row.sc (fun d => q (ix3 g r d)) K w.toNat) V g r (iter (F := Ideal) w q x y st n) (1024 + 128 * n)
  | 0, _ => h
  | n + 1, hn => by
    have hk : n < (k0_t7_loop w).trips ∧ n < 8 := ⟨by rw [trips7 hw]; omega, lt_of_lt_of_le hn (nc_le hw)⟩
    rw [iter, dif_pos hk]
    exact step_runs hw q ⟨n, hk.1⟩ _ _ g r K V (hK ⟨n, hk.2⟩) (hV ⟨n, hk.2⟩) _ (iter_runs hw q x y g r K V hK hV st h n (by omega))

end Cert.KernelIdeal.Gen

end
-- ==== Proof.IRead.lean ====
/-
  The blocks the windows fetch, and the result laid out, each at an index of the arguments.
-/
module

public import proofs.«01_k».proof.Proof.IRun
public import proofs.«01_k».proof.Proof.IVal
public import Idealize.ShloMosaic.Lib.Pipeline.ValueKit
public import Idealize.ShloMosaic.Lib.Pointwise.IndexBridge
public import Idealize.ShloMosaic.Lib.StableHlo.ReadAt

@[expose] public section

set_option maxRecDepth 16384

noncomputable section

namespace Cert.KernelIdeal.Gen

open Idealize.ShloMosaic Idealize.ShloMosaic.TcCoe Idealize.ShloMosaic.Pointwise
open Idealize.ShloMosaic.Pipeline (Dat Cfg Window)

variable (m : (ℓ : Loc nD τ sig) → Buf (Elt Ideal) ℓ)

/-- The arguments as arrays. -/
abbrev a0 (c : Dev nD) : FVec Ideal S8x32x128 .f32 := m ((c : Thread nD τ).loc main_arg0)
abbrev a1 (c : Dev nD) : FVec Ideal S8x2x8x2048x128 .f32 := m ((c : Thread nD τ).loc main_arg1)
abbrev a2 (c : Dev nD) : FVec Ideal S8x2x8x2048x128 .f32 := m ((c : Thread nD τ).loc main_arg2)
abbrev a3 (c : Dev nD) : IVec S8 32 := m ((c : Thread nD τ).loc main_arg3)

theorem idx_0 : ∀ t : Fin grid0.N, cc0_transform_0 (grid0.coords t) = ![(pbf t.val).val, 0, 0, 0] := by decide +kernel
theorem idx_1 : ∀ t : Fin grid0.N, cc0_transform_1 (grid0.coords t) = ![(pbf t.val).val, (pl t.val).val, 0, 0, 0] := by decide +kernel
theorem idx_2 : ∀ t : Fin grid0.N, cc0_transform_2 (grid0.coords t) = ![(pbf t.val).val, (pl t.val).val, 0, 0, 0] := by decide +kernel
theorem idx_3 : ∀ t : Fin grid0.N, cc0_transform_5 (grid0.coords t) = ![(pbf t.val).val, 0, 0, 0] := by decide +kernel

/-- The query laid out by heads, at an index. -/
theorem V_q (c : Dev nD) (b : Fin 8) (g : Fin 8) (r : Fin 4) (d : Fin 128) : (V m c main_call0_v0 : FVec Ideal S8x8x4x128 .f32) (ix4 b g r d) = a0 m c (ix3 b ⟨g.val * 4 + r.val, by omega⟩ d) := by
  after_reads_at

/-- A head's keys, and values, in a layer, position by position. -/
def kr (c : Dev nD) (b : Fin 8) (l : Fin 2) (g : Fin 8) : ℕ → Fin 128 → EReal := Row.rows fun j d => a1 m c (ix5 b l g j d)
def vr (c : Dev nD) (b : Fin 8) (l : Fin 2) (g : Fin 8) : ℕ → Fin 128 → EReal := Row.rows fun j d => a2 m c (ix5 b l g j d)

theorem kr_lt (c : Dev nD) (b : Fin 8) (l : Fin 2) (g : Fin 8) {j : ℕ} (h : j < 2048) (d : Fin 128) : a1 m c (ix5 b l g ⟨j, h⟩ d) = kr m c b l g j d := by
  unfold kr Row.rows; rw [dif_pos h]
theorem vr_lt (c : Dev nD) (b : Fin 8) (l : Fin 2) (g : Fin 8) {j : ℕ} (h : j < 2048) (d : Fin 128) : a2 m c (ix5 b l g ⟨j, h⟩ d) = vr m c b l g j d := by
  unfold vr Row.rows; rw [dif_pos h]

theorem X0_at (c : Dev nD) (t : Fin grid0.N) (g : Fin 8) (r : Fin 4) (d : Fin 128) :
    (X m c 0 t : FVec Ideal S1x8x4x128 .f32) (ix4 0 g r d) = a0 m c (ix3 (pbf t.val) ⟨g.val * 4 + r.val, by omega⟩ d) := by
  refine Eq.trans (congrArg (V m c main_call0_v0 : FVec Ideal S8x8x4x128 .f32) ?_) (V_q m c (pbf t.val) g r d)
  funext a; apply Fin.ext
  fin_cases a
  · show cc0_transform_0 (grid0.coords t) 0 * 1 + 1 * 0 = (pbf t.val).val
    rw [idx_0]; show (pbf t.val).val * 1 + 1 * 0 = _; omega
  · show cc0_transform_0 (grid0.coords t) 1 * 8 + 1 * g.val = g.val
    rw [idx_0]; show 0 * 8 + 1 * g.val = _; omega
  · show cc0_transform_0 (grid0.coords t) 2 * 4 + 1 * r.val = r.val
    rw [idx_0]; show 0 * 4 + 1 * r.val = _; omega
  · show cc0_transform_0 (grid0.coords t) 3 * 128 + 1 * d.val = d.val
    rw [idx_0]; show 0 * 128 + 1 * d.val = _; omega

theorem X1_at (c : Dev nD) (t : Fin grid0.N) (g : Fin 8) (j : Fin 1024) (d : Fin 128) :
    (X m c 1 t : FVec Ideal S1x1x8x1024x128 .f32) (ix5 0 0 g j d) = kr m c (pbf t.val) (pl t.val) g j.val d := by
  refine ((congrFun (V_of_ne m c main_arg1 (by decide)) _).trans (congrArg (a1 m c) ?_)).trans (kr_lt m c (pbf t.val) (pl t.val) g (show j.val < 2048 by omega) d)
  funext a; apply Fin.ext
  fin_cases a
  · show cc0_transform_1 (grid0.coords t) 0 * 1 + 1 * 0 = (pbf t.val).val
    rw [idx_1]; show (pbf t.val).val * 1 + 1 * 0 = _; omega
  · show cc0_transform_1 (grid0.coords t) 1 * 1 + 1 * 0 = (pl t.val).val
    rw [idx_1]; show (pl t.val).val * 1 + 1 * 0 = _; omega
  · show cc0_transform_1 (grid0.coords t) 2 * 8 + 1 * g.val = g.val
    rw [idx_1]; show 0 * 8 + 1 * g.val = _; omega
  · show cc0_transform_1 (grid0.coords t) 3 * 1024 + 1 * j.val = j.val
    rw [idx_1]; show 0 * 1024 + 1 * j.val = _; omega
  · show cc0_transform_1 (grid0.coords t) 4 * 128 + 1 * d.val = d.val
    rw [idx_1]; show 0 * 128 + 1 * d.val = _; omega

theorem X2_at (c : Dev nD) (t : Fin grid0.N) (g : Fin 8) (j : Fin 1024) (d : Fin 128) :
    (X m c 2 t : FVec Ideal S1x1x8x1024x128 .f32) (ix5 0 0 g j d) = vr m c (pbf t.val) (pl t.val) g j.val d := by
  refine ((congrFun (V_of_ne m c main_arg2 (by decide)) _).trans (congrArg (a2 m c) ?_)).trans (vr_lt m c (pbf t.val) (pl t.val) g (show j.val < 2048 by omega) d)
  funext a; apply Fin.ext
  fin_cases a
  · show cc0_transform_2 (grid0.coords t) 0 * 1 + 1 * 0 = (pbf t.val).val
    rw [idx_2]; show (pbf t.val).val * 1 + 1 * 0 = _; omega
  · show cc0_transform_2 (grid0.coords t) 1 * 1 + 1 * 0 = (pl t.val).val
    rw [idx_2]; show (pl t.val).val * 1 + 1 * 0 = _; omega
  · show cc0_transform_2 (grid0.coords t) 2 * 8 + 1 * g.val = g.val
    rw [idx_2]; show 0 * 8 + 1 * g.val = _; omega
  · show cc0_transform_2 (grid0.coords t) 3 * 1024 + 1 * j.val = j.val
    rw [idx_2]; show 0 * 1024 + 1 * j.val = _; omega
  · show cc0_transform_2 (grid0.coords t) 4 * 128 + 1 * d.val = d.val
    rw [idx_2]; show 0 * 128 + 1 * d.val = _; omega

theorem chunkK_at (c : Dev nD) (b : Fin 8) (l : Fin 2) (k g : Fin 8) (j d : Fin 128) : (chunk c M1 (fK m c) b l k : FVec Ideal S1x8x128x128 .f32) (ix4 0 g j d) = kr m c b l g (1024 + 128 * k.val + j.val) d :=
  (congrArg (a1 m c) (ix5_eq_valueIdx b l g (⟨1024 + 128 * k.val + j.val, by omega⟩ : Fin 2048) d).symm).trans (kr_lt m c b l g (show 1024 + 128 * k.val + j.val < 2048 by omega) d)
theorem chunkV_at (c : Dev nD) (b : Fin 8) (l : Fin 2) (k g : Fin 8) (j d : Fin 128) : (chunk c M2 (fV m c) b l k : FVec Ideal S1x8x128x128 .f32) (ix4 0 g j d) = vr m c b l g (1024 + 128 * k.val + j.val) d :=
  (congrArg (a2 m c) (ix5_eq_valueIdx b l g (⟨1024 + 128 * k.val + j.val, by omega⟩ : Fin 2048) d).symm).trans (vr_lt m c b l g (show 1024 + 128 * k.val + j.val < 2048 by omega) d)

/-- A batch's length, -/
abbrev len (c : Dev nD) (b : Fin 8) : ℕ := (a3 m c (ix1 b)).toNat
theorem wd_len (c : Dev nD) (b : Fin 8) : (wd c (tb m c) b).toNat = len m c b := by
  unfold wd; rw [tb_eq]; exact congrArg (fun i => (a3 m c i).toNat) (ix1_eq_valueIdx b).symm

/-- and what is asked of the arguments: every length from 1024 to 2048, every number real. -/
structure Good (c : Dev nD) : Prop where
  len : ∀ b, 1024 ≤ len m c b ∧ len m c b ≤ 2048
  q : ∀ i, Row.IsReal (a0 m c i)
  k : ∀ i, Row.IsReal (a1 m c i)
  v : ∀ i, Row.IsReal (a2 m c i)

theorem rows_real {x : Fin 2048 → Fin 128 → EReal} (h : ∀ j d, Row.IsReal (x j d)) (j : ℕ) (d : Fin 128) : Row.IsReal (Row.rows x j d) := by
  unfold Row.rows; split
  · exact h _ _
  · exact ⟨0, rfl⟩

variable {m} {c : Dev nD} (hG : Good m c)
include hG

theorem Good.kr (b : Fin 8) (l : Fin 2) (g : Fin 8) : ∀ j d, Row.IsReal (kr m c b l g j d) := rows_real fun _ _ => hG.k _
theorem Good.vr (b : Fin 8) (l : Fin 2) (g : Fin 8) : ∀ j d, Row.IsReal (vr m c b l g j d) := rows_real fun _ _ => hG.v _
theorem Good.inR (b : Fin 8) : InR (wd c (tb m c) b) := by unfold InR; rw [wd_len]; exact hG.len b

/-- A point leaves a layer of its query. -/
theorem stq_layer (t : Fin grid0.N) (q : FVec Ideal S8x4x128 .f32) (g : Fin 8) (r : Fin 4) (q' : Fin 128 → EReal) (hr : ∀ d, Row.IsReal (q' d)) (hq : ∀ d, q (ix3 g r d) = q' d * Row.rs) (d : Fin 128) :
    Ideal.div ((stq m c t q).2.2 (ix3 g r d)) ((stq m c t q).2.1 (ix3 g r d)) = Row.layer q' (kr m c (pbf t.val) (pl t.val) g) (vr m c (pbf t.val) (pl t.val) g) (len m c (pbf t.val)) d := by
  have h := iter_runs (hG.inR (pbf t.val)) q (chunk c M1 (fK m c) (pbf t.val) (pl t.val)) (chunk c M2 (fV m c) (pbf t.val) (pl t.val)) g r (kr m c (pbf t.val) (pl t.val) g) (vr m c (pbf t.val) (pl t.val) g)
    (fun k j d => chunkK_at m c _ _ k g j d) (fun k j d => chunkV_at m c _ _ k g j d) _
    (first3_runs (hG.inR (pbf t.val)) q (X m c 1 t) (X m c 2 t) g r _ _ (fun j d => X1_at m c t g j d) (fun j d => X2_at m c t g j d)) _ le_rfl
  obtain ⟨-, h2, h3⟩ := h d
  have hb := hG.len (pbf t.val)
  rw [stq, last3, h2, h3, wd_len, show (fun d => q (ix3 g r d)) = fun d => q' d * Row.rs from funext hq]
  exact Row.layer_eq _ (by omega) hb.2 (by unfold nc; rw [wd_len]; omega) hr (hG.kr _ _ _) d

variable (m c) in
omit hG in
/-- Layer 0 of a head's query, -/
def lay0 (b : Fin 8) (h : Fin 32) : Fin 128 → EReal := Row.layer (fun d => a0 m c (ix3 b h d)) (kr m c b 0 ⟨h.val / 4, by omega⟩) (vr m c b 0 ⟨h.val / 4, by omega⟩) (len m c b)
variable (m c) in
omit hG in
/-- and layer 1 of that. -/
def lay1 (b : Fin 8) (h : Fin 32) : Fin 128 → EReal := Row.layer (lay0 m c b h) (kr m c b 1 ⟨h.val / 4, by omega⟩) (vr m c b 1 ⟨h.val / 4, by omega⟩) (len m c b)

omit hG in
theorem head_div (g : Fin 8) (r : Fin 4) : (⟨(g.val * 4 + r.val) / 4, by omega⟩ : Fin 8) = g := Fin.ext (by show (g.val * 4 + r.val) / 4 = g.val; omega)

theorem lay0_real (b : Fin 8) (h : Fin 32) (d : Fin 128) : Row.IsReal (lay0 m c b h d) :=
  Row.layer_real (by have := hG.len b; omega) (hG.len b).2 (fun _ => hG.q _) (hG.kr _ _ _) (hG.vr _ _ _) d

/-- An even point leaves layer 0, -/
theorem fin_even (t : Fin grid0.N) (ht : t.val % 2 = 0) (g : Fin 8) (r : Fin 4) (d : Fin 128) :
    Ideal.div ((stq m c t (q0 m c t)).2.2 (ix3 g r d)) ((stq m c t (q0 m c t)).2.1 (ix3 g r d)) = lay0 m c (pbf t.val) ⟨g.val * 4 + r.val, by omega⟩ d := by
  rw [stq_layer hG t (q0 m c t) g r (fun d => a0 m c (ix3 (pbf t.val) ⟨g.val * 4 + r.val, by omega⟩ d)) (fun _ => hG.q _) (fun d => (p22 _ _ _ _).trans (congrArg (· * Row.rs) (X0_at m c t g r d)))]
  have e : pl t.val = 0 := Fin.ext ht
  rw [e]; unfold lay0; rw [head_div]

/-- and an odd point layer 1. -/
theorem fin_odd (t : Fin grid0.N) (ht : t.val % 2 = 1) (g : Fin 8) (r : Fin 4) (d : Fin 128) :
    Ideal.div ((fin m c t).2.2 (ix3 g r d)) ((fin m c t).2.1 (ix3 g r d)) = lay1 m c (pbf t.val) ⟨g.val * 4 + r.val, by omega⟩ d := by
  have h0 : (prev t).val % 2 = 0 := by show (t.val - 1) % 2 = 0; omega
  have hb : pbf (prev t).val = pbf t.val := Fin.ext (by show (t.val - 1) / 2 % 8 = t.val / 2 % 8; omega)
  have hq : qat m c t = q1 m c t := if_neg (by omega)
  have e : pl t.val = 1 := Fin.ext ht
  rw [fin, hq, stq_layer hG t (q1 m c t) g r (lay0 m c (pbf t.val) ⟨g.val * 4 + r.val, by omega⟩) (lay0_real hG _ _)
    (fun d => (p9 _ _ _ _ _).trans (congrArg (· * Row.rs) ((fin_even hG (prev t) h0 g r d).trans (by rw [hb]))))]
  rw [e]; unfold lay1; rw [head_div]

omit hG in
theorem ex4 (y : S1x8x4x128.Idx) : ∃ (z : Fin 1) (g : Fin 8) (r : Fin 4) (d : Fin 128), y = ix4 z g r d := ⟨y 0, y 1, y 2, y 3, by funext a; fin_cases a <;> rfl⟩

omit hG in
/-- The odd points' blocks cover the output. -/
theorem covers_3 : ((cfgA m).win 3).Covers := by
  refine ⟨(by decide : ∀ a, 0 < S1x8x4x128.size a), fun β => ?_⟩
  have h0 : (β (0 : Fin 4)).val < 8 := (β (0 : Fin 4)).isLt.trans_le (by show (8 + 1 - 1) / 1 ≤ 8; decide)
  have h1 : (β (1 : Fin 4)).val < 1 := (β (1 : Fin 4)).isLt.trans_le (by show (8 + 8 - 1) / 8 ≤ 1; decide)
  have h2 : (β (2 : Fin 4)).val < 1 := (β (2 : Fin 4)).isLt.trans_le (by show (4 + 4 - 1) / 4 ≤ 1; decide)
  have h3 : (β (3 : Fin 4)).val < 1 := (β (3 : Fin 4)).isLt.trans_le (by show (128 + 128 - 1) / 128 ≤ 1; decide)
  have h16 := N_0
  have hl : 2 * (β (0 : Fin 4)).val + 1 < grid0.N := by omega
  refine ⟨⟨2 * (β (0 : Fin 4)).val + 1, hl⟩, (flush_3 m _).trans (decide_eq_true (by show (2 * (β (0 : Fin 4)).val + 1) % 2 = 1; omega)), fun a => ⟨?_, Or.inl rfl⟩⟩
  show cc0_transform_5 (grid0.coords _) a = _
  rw [idx_3]
  fin_cases a
  · show (2 * (β (0 : Fin 4)).val + 1) / 2 % 8 = (β (0 : Fin 4)).val; omega
  · show 0 = (β (1 : Fin 4)).val; omega
  · show 0 = (β (2 : Fin 4)).val; omega
  · show 0 = (β (3 : Fin 4)).val; omega

/-- What the region leaves. -/
theorem outA_eq : outA m c = fun i : S8x8x4x128.Idx => lay1 m c (i 0) ⟨(i 1 : Fin 8).val * 4 + (i 2 : Fin 4).val, by have h1 : (i 1).val < 8 := (i 1).isLt; have h2 : (i 2).val < 4 := (i 2).isLt; omega⟩ (i 3) := by
  refine (dats m 0 c).arrAt_eq_of_covers 3 _ covers_3 fun t hf y => ?_
  have ho : t.val % 2 = 1 := by rw [flush_3] at hf; exact of_decide_eq_true hf
  show (outv m c t : FVec Ideal S1x8x4x128 .f32) y = _
  obtain ⟨z, g, r, d, rfl⟩ := ex4 y
  rw [outv, p8, fin_odd hG t ho]
  have e : (((cfgA m).win 3).blk t).view.emb (ix4 z g r d) = (ix4 (pbf t.val) g r d : S8x8x4x128.Idx) := by
    funext a; apply Fin.ext
    fin_cases a
    · show cc0_transform_5 (grid0.coords t) 0 * 1 + 1 * z.val = (pbf t.val).val
      rw [idx_3]; show (pbf t.val).val * 1 + 1 * z.val = _; omega
    · show cc0_transform_5 (grid0.coords t) 1 * 8 + 1 * g.val = g.val
      rw [idx_3]; show 0 * 8 + 1 * g.val = _; omega
    · show cc0_transform_5 (grid0.coords t) 2 * 4 + 1 * r.val = r.val
      rw [idx_3]; show 0 * 4 + 1 * r.val = _; omega
    · show cc0_transform_5 (grid0.coords t) 3 * 128 + 1 * d.val = d.val
      rw [idx_3]; show 0 * 128 + 1 * d.val = _; omega
  rw [e]
  rfl

/-- The result, at an index. -/
theorem outF_at (b : Fin 8) (h : Fin 32) (d : Fin 128) : (outF m c : FVec Ideal S8x32x128 .f32) (ix3 b h d) = lay1 m c b h d := by
  have e : (outF m c : FVec Ideal S8x32x128 .f32) (ix3 b h d) = (V₁ m c (Proc.devRef .tc main_call0_v1) : FVec Ideal S8x8x4x128 .f32) (ix4 b ⟨h.val / 4, by omega⟩ ⟨h.val % 4, by omega⟩ d) := by
    unfold outF
    after_reads_at
  have e1 : V₁ m c (Proc.devRef .tc main_call0_v1) = outA m c := Function.update_self _ _ _
  rw [e, e1, outA_eq hG]
  show lay1 m c b ⟨h.val / 4 * 4 + h.val % 4, _⟩ d = _
  congr 1
  exact Fin.ext (by show h.val / 4 * 4 + h.val % 4 = h.val; omega)

end Cert.KernelIdeal.Gen

end
-- ==== Proof.RefTerm.lean ====
/-
  The reference's result, cut into its parts: the mask, a layer's repeated cache, the masked scores, their exponentials,
  and the layer; and each part read at an index.
-/
module

public import proofs.«01_k».proof.Proof.Gen.ReferenceIdeal.Run
public import Idealize.ShloMosaic.Lib.Pointwise
public import proofs.«01_k».proof.Proof.Row

@[expose] public section

noncomputable section

namespace Cert.ReferenceIdeal.Value

open Cert.ReferenceIdeal Cert.ReferenceIdeal.Gen Idealize.ShloMosaic Idealize.ShloMosaic.TcCoe

/-- Which positions are below their batch's length. -/
def below (a3 : IVec S8 32) : IVec S8x1x2048 1 :=
  broadcastInDim S8x1x2048 ![0, 2] bcast_S8x2048_S8x1x2048_0_2 (cmpi .slt (broadcastInDim S8x2048 ![0, 1] bcast_S1x2048_S8x2048_0_1 (broadcastInDim S1x2048 ![1] bcast_S2048_S1x2048_1 (iotaInDim S2048 32 0)))
    (broadcastInDim S8x2048 ![0, 1] bcast_S8x1_S8x2048_0_1 (broadcastInDim S8x1 ![0] bcast_S8_S8x1_0 a3)))

/-- A layer's cache, each of its heads repeated four times. -/
def rep (x : FVec Ideal S8x1x8x2048x128 .f32) : FVec Ideal S8x32x2048x128 .f32 :=
  shapeCast _ (broadcastInDim S8x8x4x2048x128 ![0, 1, 3, 4] bcast_S8x8x2048x128_S8x8x4x2048x128_0_1_3_4 (shapeCast _ x shapeCasts_S8x1x8x2048x128_S8x8x2048x128)) shapeCasts_S8x8x4x2048x128_S8x32x2048x128

/-- A layer of a cache. -/
def cut0 (x : FVec Ideal S8x2x8x2048x128 .f32) : FVec Ideal S8x1x8x2048x128 .f32 :=
  extractStridedSlice S8x1x8x2048x128 ![0, 0, 0, 0, 0] x slices_S8x2x8x2048x128_S8x1x8x2048x128_0_0_0_0_0
def cut1 (x : FVec Ideal S8x2x8x2048x128 .f32) : FVec Ideal S8x1x8x2048x128 .f32 :=
  extractStridedSlice S8x1x8x2048x128 ![0, 1, 0, 0, 0] x slices_S8x2x8x2048x128_S8x1x8x2048x128_0_1_0_0_0

/-- The masked scores, -/
def score (q : FVec Ideal S8x32x128 .f32) (k : FVec Ideal S8x32x2048x128 .f32) (b : IVec S8x1x2048 1) : FVec Ideal S8x32x2048 .f32 :=
  select (broadcastInDim S8x32x2048 ![0, 1, 2] bcast_S8x1x2048_S8x32x2048_0_1_2 b)
    (Host.divf (Host.dotGeneral dot_S8x32x128_S8x32x2048x128_S8x32x2048_2_3_n_2_01_01 none q k) (broadcastInDim S8x32x2048 ![] bcast_S_S8x32x2048 (Host.sqrt (constant S_ .f32 0x43000000#32))))
    (broadcastInDim S8x32x2048 ![] bcast_S_S8x32x2048 (id (constant S_ .f32 0xFF800000#32)))

/-- a row's greatest, -/
def top (s : FVec Ideal S8x32x2048 .f32) : FVec Ideal S8x32 .f32 :=
  maximumf (broadcastInDim S8x32 ![] bcast_S_S8x32 (constant S_ .f32 0xFF800000#32)) (Host.reduce FloatOps.maximumf s (constant S_ .f32 0xFF800000#32) reducesTo_S8x32x2048_S8x32_d2 h_S_)

/-- their exponentials, -/
def expo (s : FVec Ideal S8x32x2048 .f32) : FVec Ideal S8x32x2048 .f32 :=
  Host.exp (subf s (broadcastInDim S8x32x2048 ![0, 1, 2] bcast_S8x32x1_S8x32x2048_0_1_2 (broadcastInDim S8x32x1 ![0, 1] bcast_S8x32_S8x32x1_0_1 (top s))))

/-- and the product of the quotients with the values. -/
def mix (e : FVec Ideal S8x32x2048 .f32) (v : FVec Ideal S8x32x2048x128 .f32) : FVec Ideal S8x32x128 .f32 :=
  Host.dotGeneral dot_S8x32x2048_S8x32x2048x128_S8x32x128_2_2_n_3_01_01 none (Host.divf e (broadcastInDim S8x32x2048 ![0, 1, 2] bcast_S8x32x1_S8x32x2048_0_1_2 (broadcastInDim S8x32x1 ![0, 1] bcast_S8x32_S8x32x1_0_1
    (Host.reduceAdd e (constant S_ .f32 0x00000000#32) reducesTo_S8x32x2048_S8x32_d2 h_S_)))) v

/-- A layer. -/
def lay (q : FVec Ideal S8x32x128 .f32) (k v : FVec Ideal S8x1x8x2048x128 .f32) (a3 : IVec S8 32) : FVec Ideal S8x32x128 .f32 :=
  mix (expo (score q (rep k) (below a3))) (rep v)

set_option maxRecDepth 8192 in
/-- The reference's result is its two layers. -/
theorem res_lay (m : (ℓ : Loc nD τ sig) → Buf (Elt Ideal) ℓ) (c : Dev nD) : res_out0 m c =
    lay (lay (m ((c.tc : Thread nD τ).loc main_arg0)) (cut0 (m ((c.tc : Thread nD τ).loc main_arg1))) (cut0 (m ((c.tc : Thread nD τ).loc main_arg2))) (m ((c.tc : Thread nD τ).loc main_arg3)))
      (cut1 (m ((c.tc : Thread nD τ).loc main_arg1))) (cut1 (m ((c.tc : Thread nD τ).loc main_arg2))) (m ((c.tc : Thread nD τ).loc main_arg3)) := by
  rfl

theorem below_at (a3 : IVec S8 32) (b : Fin 8) (j : Fin 2048) (z : Fin 1) : below a3 (ix3 b z j) = IntOp.cmpi CmpIPredicate.slt (BitVec.ofNat 32 j.val) (a3 (ix1 b)) := by
  pointwise [below]
theorem rep_at (x : FVec Ideal S8x1x8x2048x128 .f32) (b : Fin 8) (h : Fin 32) (j : Fin 2048) (d : Fin 128) : rep x (ix4 b h j d) = x (ix5 b 0 ⟨h.val / 4, by omega⟩ j d) := by
  pointwise [rep]
theorem cut0_at (x : FVec Ideal S8x2x8x2048x128 .f32) (b : Fin 8) (h : Fin 8) (j : Fin 2048) (d : Fin 128) (z : Fin 1) : cut0 x (ix5 b z h j d) = x (ix5 b 0 h j d) := by
  pointwise [cut0]
theorem cut1_at (x : FVec Ideal S8x2x8x2048x128 .f32) (b : Fin 8) (h : Fin 8) (j : Fin 2048) (d : Fin 128) (z : Fin 1) : cut1 x (ix5 b z h j d) = x (ix5 b 1 h j d) := by
  pointwise [cut1]

theorem ofBits_128 : Ideal.ofBits .f32 0x43000000#32 = ((128 : ℝ) : EReal) := by
  simp [Ideal.ofBits, Ideal.ieee]
  rw [← EReal.coe_mul]; norm_num
theorem sqrt_128 : Ideal.sqrt ((128 : ℝ) : EReal) = ((Real.sqrt 128 : ℝ) : EReal) := by
  unfold Ideal.sqrt; exact if_neg (by norm_num)

theorem score_at (q : FVec Ideal S8x32x128 .f32) (k : FVec Ideal S8x32x2048x128 .f32) (m : IVec S8x1x2048 1) (b : Fin 8) (h : Fin 32) (j : Fin 2048) :
    score q k m (ix3 b h j) = Scalar.select (m (ix3 b 0 j)) ((∑ d, q (ix3 b h d) * k (ix4 b h j d)) * Row.rs) ⊥ := by
  pointwise [score]
  rw [ofBits_128, sqrt_128, Ideal.div_coe (by positivity), one_div]
  show _ = _
  rw [← Row.ofBits_ninf]; rfl
theorem top_at (s : FVec Ideal S8x32x2048 .f32) (b : Fin 8) (h : Fin 32) : top s (ix2 b h) = Finset.univ.fold max ⊥ fun j : Fin 2048 => s (ix3 b h j) := by
  pointwise [top]
  rw [Row.ofBits_ninf]; exact max_eq_right bot_le
theorem expo_at (s : FVec Ideal S8x32x2048 .f32) (b : Fin 8) (h : Fin 32) (j : Fin 2048) : expo s (ix3 b h j) = Ideal.exp (s (ix3 b h j) - top s (ix2 b h)) := by
  pointwise [expo]
theorem mix_at (e : FVec Ideal S8x32x2048 .f32) (v : FVec Ideal S8x32x2048x128 .f32) (b : Fin 8) (h : Fin 32) (d : Fin 128) :
    mix e v (ix3 b h d) = ∑ j, Ideal.div (e (ix3 b h j)) (∑ j, e (ix3 b h j)) * v (ix4 b h j d) := by
  pointwise [mix]

/-- THE REFERENCE'S LAYER at an index is the attention of its row. -/
theorem lay_at (q : FVec Ideal S8x32x128 .f32) (k v : FVec Ideal S8x1x8x2048x128 .f32) (a3 : IVec S8 32) (b : Fin 8) (h : Fin 32) (d : Fin 128) (hw : (a3 (ix1 b)).toNat ≤ 2048) :
    lay q k v a3 (ix3 b h d) = Row.layer (fun d => q (ix3 b h d)) (Row.rows fun j d => k (ix5 b 0 ⟨h.val / 4, by omega⟩ j d)) (Row.rows fun j d => v (ix5 b 0 ⟨h.val / 4, by omega⟩ j d)) (a3 (ix1 b)).toNat d := by
  have hs : ∀ j : Fin 2048, score q (rep k) (below a3) (ix3 b h j) = Row.sc (fun d => q (ix3 b h d) * Row.rs) (Row.rows fun j d => k (ix5 b 0 ⟨h.val / 4, by omega⟩ j d)) (a3 (ix1 b)).toNat j.val := by
    intro j
    rw [score_at, below_at, Row.slt_ofNat hw _ j.isLt, Row.sc, Row.sum_rs]
    simp only [rep_at, Row.rows_val]
    by_cases hj : j.val < (a3 (ix1 b)).toNat
    · rw [if_pos hj, if_pos hj]; rfl
    · rw [if_neg hj, if_neg hj]; rfl
  have hx : ∀ j : Fin 2048, expo (score q (rep k) (below a3)) (ix3 b h j) = Ideal.exp (Row.sc (fun d => q (ix3 b h d) * Row.rs) (Row.rows fun j d => k (ix5 b 0 ⟨h.val / 4, by omega⟩ j d)) (a3 (ix1 b)).toNat j.val
      - Row.mx (Row.sc (fun d => q (ix3 b h d) * Row.rs) (Row.rows fun j d => k (ix5 b 0 ⟨h.val / 4, by omega⟩ j d)) (a3 (ix1 b)).toNat) 2048) := by
    intro j
    rw [expo_at, top_at]
    simp only [hs]
    rw [Row.fold_max]; rfl
  rw [lay, mix_at]
  simp only [hx, rep_at]
  unfold Row.layer Row.att Row.ls
  simp only [Finset.sum_range, Row.rows_val]

end Cert.ReferenceIdeal.Value

end
-- ==== Proof.Value.lean ====
/-
  The value claim: the kernel's result is the reference's, at every index two layers of attention of one head's row.
-/
module

public import proofs.«01_k».proof.Proof.FPre
public import proofs.«01_k».proof.Proof.IRead
public import proofs.«01_k».proof.Proof.RefTerm
public import Idealize.ShloMosaic.Adequacy

@[expose] public section

noncomputable section

namespace Cert.Value

open Idealize.ShloMosaic Idealize.ShloMosaic.TcCoe Idealize.SL.Sem
open Cert.KernelIdeal (nD τ sig)
open Cert.KernelIdeal.Gen

/-- The precondition, of the arguments. -/
theorem good_of_pre {m : (ℓ : Loc nD τ sig) → Buf (Elt Ideal) ℓ} (h : Cert.Pre_KernelIdeal_finite_in_range m) (c : Dev nD) : Good m c := by
  obtain ⟨hq, hk, hv, hl⟩ := Cert.fin_range (h c)
  exact ⟨fun b => hl _, hq, hk, hv⟩

theorem inR_of_fin {m : (ℓ : Loc nD τ sig) → Buf (Elt Ideal) ℓ} (h : Cert.Pre_KernelIdeal_finite_in_range m) (c : Dev nD) (b : Fin 8) : InR (wd c (tb m c) b) := (good_of_pre h c).inR b

theorem ex3 (y : Cert.KernelIdeal.S8x32x128.Idx) : ∃ (b : Fin 8) (h : Fin 32) (d : Fin 128), y = ix3 b h d := ⟨y 0, y 1, y 2, by funext a; fin_cases a <;> rfl⟩

/-- The reference's two layers are the kernel's. -/
theorem lay_two {m : (ℓ : Loc nD τ sig) → Buf (Elt Ideal) ℓ} {c : Dev nD} (hG : Good m c) :
    Cert.ReferenceIdeal.Value.lay (Cert.ReferenceIdeal.Value.lay (a0 m c) (Cert.ReferenceIdeal.Value.cut0 (a1 m c)) (Cert.ReferenceIdeal.Value.cut0 (a2 m c)) (a3 m c))
      (Cert.ReferenceIdeal.Value.cut1 (a1 m c)) (Cert.ReferenceIdeal.Value.cut1 (a2 m c)) (a3 m c) = outF m c := by
  funext y
  obtain ⟨b, h, d, rfl⟩ := ex3 y
  refine Eq.trans ?_ (outF_at hG b h d).symm
  rw [Cert.ReferenceIdeal.Value.lay_at _ _ _ _ _ _ _ (hG.len b).2]
  simp only [Cert.ReferenceIdeal.Value.lay_at _ _ _ _ _ _ _ (hG.len b).2, Cert.ReferenceIdeal.Value.cut0_at, Cert.ReferenceIdeal.Value.cut1_at]
  rfl

/-- THE VALUE CLAIM. -/
theorem algebraic : Cert.algebraic_KernelIdeal_ReferenceIdeal_pre_finite_in_range := by
  intro m g m' g' h ha
  refine ⟨fun c => outF m c, (θ_run Cert.KernelIdeal.defs _ _).mono (fun _ h => h.1) (run_main m (inR_of_fin h) g), (θ_run Cert.ReferenceIdeal.defs _ _).mono (fun r hr c => ⟨(hr c).1.trans ?_, (hr c).2⟩) (Cert.ReferenceIdeal.Value.run (F := Ideal) m' g')⟩
  refine Eq.trans (Cert.ReferenceIdeal.Value.res_lay m' c) ?_
  obtain ⟨e0, e1, e2, e3⟩ := ha c
  rw [e0, e1, e2, e3]
  exact lay_two (good_of_pre h c)

/-- The frames under the same precondition. -/
theorem frame_i : Cert.quiescent_KernelIdeal_pre_finite_in_range := fun m ρ h =>
  (θ_run Cert.KernelIdeal.defs _ _).mono (fun _ h => ⟨fun c => (h.1 c).2, h.2⟩) (run_main m (inR_of_fin h) ρ)

end Cert.Value

end
-- ==== Proof.lean ====
/-
  The claims, put together: the frames of the kernel, of its idealization and of the reference, the two named
  constants, and the equality of the kernel's result with the reference's.
-/
module

public import proofs.«01_k».proof.Defs
public import proofs.«01_k».proof.Proof.KFrame
public import proofs.«01_k».proof.Proof.IFrame
public import proofs.«01_k».proof.Proof.Value
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.ShloMosaic.TcCoe Idealize.SL.Sem

/-- The reference ends, its arguments unchanged, every counter at zero: from any memory, -/
theorem frame_r : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)
/-- so from one that the value claim asks for. -/
theorem frame_r_fin : Cert.quiescent_ReferenceIdeal_pre_finite_in_range := fun m ρ _ => frame_r m ρ trivial

/-- Each named constant's word is the one that its name stands for. -/
theorem preserves : Cert.preserves_Kernel_KernelIdeal :=
  ⟨IdealRules.named_const.statement _ _ .f32 0x3DB504F3#32 _ rfl, IdealRules.named_const.statement _ _ .f32 0xF149F2CA#32 _ rfl⟩

/-- Everything claimed. -/
theorem claim : Cert.Claim :=
  ⟨Cert.Kernel.Gen.facts, Cert.KernelIdeal.Gen.facts, Cert.ReferenceIdeal.Gen.facts, Cert.facts_pre, Cert.facts_fin,
    Cert.Kernel.Gen.frame_k, Cert.KernelIdeal.Gen.frame_i, Cert.Value.frame_i, frame_r, frame_r_fin, preserves, Cert.Value.algebraic⟩

end Cert.Proof

end
